-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = Layout.blockN ⟨2, ![4096, 4096]⟩ ⟨2, ![8192, 4096]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S8192x4096 : Shape := ⟨2, ![8192, 4096]⟩
abbrev S1x4096 : Shape := ⟨2, ![1, 4096]⟩
abbrev S4096x4096 : Shape := ⟨2, ![4096, 4096]⟩
abbrev S2x512x4096 : Shape := ⟨3, ![2, 512, 4096]⟩
abbrev S2 : Shape := ⟨1, ![2]⟩
abbrev S8 : Shape := ⟨1, ![8]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S1x4096, .f32⟩
  | .local _ .vmem, ⟨1, _⟩ => ⟨S2x512x4096, .f32⟩
  | .local _ .vmem, ⟨2, _⟩ => ⟨S2x512x4096, .bf16⟩
  | .local _ .vmem, ⟨3, _⟩ => ⟨S2x512x4096, .bf16⟩
  | .local _ .vmem, ⟨4, _⟩ => ⟨S2x512x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c4096_i32 : BitVec 32 := 4096#32
  let v18 : BitVec 32 := Scalar.muli v17 c4096_i32
  let c0_i32_15 : BitVec 32 := 0#32
  ![v18.toNat, 0]
def k0_off2 (d0 : Dev nD) (c512_i32 : BitVec 32) : Fin 2 → Nat :=
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c4096_i32 : BitVec 32 := 4096#32
  let v18 : BitVec 32 := Scalar.muli v17 c4096_i32
  let v25 : BitVec 32 := Scalar.addi v18 c512_i32
  let c0_i32_20 : BitVec 32 := 0#32
  ![v25.toNat, 0]
def k0_dev2 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v42 : BitVec 32 := Scalar.muli v2 c4_i32_34
  let v43 : BitVec 32 := Scalar.addi c0_i32_35 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v44 : BitVec 32 := Scalar.muli v5 c2_i32_36
  let v45 : BitVec 32 := Scalar.addi v43 v44
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v46 : BitVec 32 := Scalar.muli v9 c1_i32_37
  let v47 : BitVec 32 := Scalar.addi v45 v46
  v47.toNat
def k0_dev3 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v72 : BitVec 32 := Scalar.muli v2 c4_i32_60
  let v73 : BitVec 32 := Scalar.addi c0_i32_61 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v74 : BitVec 32 := Scalar.muli v5 c2_i32_62
  let v75 : BitVec 32 := Scalar.addi v73 v74
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_63 : BitVec 32 := 1#32
  let v76 : BitVec 32 := Scalar.muli v9 c1_i32_63
  let v77 : BitVec 32 := Scalar.addi v75 v76
  v77.toNat
def k0_dev4 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v107 : BitVec 32 := Scalar.muli v2 c4_i32_95
  let v108 : BitVec 32 := Scalar.addi c0_i32_96 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v109 : BitVec 32 := Scalar.muli v5 c2_i32_97
  let v110 : BitVec 32 := Scalar.addi v108 v109
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_98 : BitVec 32 := 1#32
  let v111 : BitVec 32 := Scalar.muli v9 c1_i32_98
  let v112 : BitVec 32 := Scalar.addi v110 v111
  v112.toNat
def k0_dev5 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v142 : BitVec 32 := Scalar.muli v2 c4_i32_129
  let v143 : BitVec 32 := Scalar.addi c0_i32_130 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v144 : BitVec 32 := Scalar.muli v5 c2_i32_131
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_132 : BitVec 32 := 1#32
  let v146 : BitVec 32 := Scalar.muli v9 c1_i32_132
  let v147 : BitVec 32 := Scalar.addi v145 v146
  v147.toNat
def k0_dev6 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v177 : BitVec 32 := Scalar.muli v2 c4_i32_164
  let v178 : BitVec 32 := Scalar.addi c0_i32_165 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_166 : BitVec 32 := 2#32
  let v179 : BitVec 32 := Scalar.muli v5 c2_i32_166
  let v180 : BitVec 32 := Scalar.addi v178 v179
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_167 : BitVec 32 := 1#32
  let v181 : BitVec 32 := Scalar.muli v9 c1_i32_167
  let v182 : BitVec 32 := Scalar.addi v180 v181
  v182.toNat
def k0_dev7 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v212 : BitVec 32 := Scalar.muli v2 c4_i32_198
  let v213 : BitVec 32 := Scalar.addi c0_i32_199 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v214 : BitVec 32 := Scalar.muli v5 c2_i32_200
  let v215 : BitVec 32 := Scalar.addi v213 v214
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_201 : BitVec 32 := 1#32
  let v216 : BitVec 32 := Scalar.muli v9 c1_i32_201
  let v217 : BitVec 32 := Scalar.addi v215 v216
  v217.toNat
def k0_dev8 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_232 : BitVec 32 := 4#32
  let v247 : BitVec 32 := Scalar.muli v2 c4_i32_232
  let v248 : BitVec 32 := Scalar.addi c0_i32_233 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_234 : BitVec 32 := 2#32
  let v249 : BitVec 32 := Scalar.muli v5 c2_i32_234
  let v250 : BitVec 32 := Scalar.addi v248 v249
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_235 : BitVec 32 := 1#32
  let v251 : BitVec 32 := Scalar.muli v9 c1_i32_235
  let v252 : BitVec 32 := Scalar.addi v250 v251
  v252.toNat
def k0_dev9 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v276 : BitVec 32 := Scalar.muli v2 c4_i32_261
  let v277 : BitVec 32 := Scalar.addi c0_i32_262 v276
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v278 : BitVec 32 := Scalar.muli v5 c2_i32_263
  let v279 : BitVec 32 := Scalar.addi v277 v278
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_264 : BitVec 32 := 1#32
  let v280 : BitVec 32 := Scalar.muli v9 c1_i32_264
  let v281 : BitVec 32 := Scalar.addi v279 v280
  v281.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_10 : BitVec 32 := 4096#32
  let v19 : BitVec 32 := Scalar.muli v8 c4096_i32_10
  let c0_i32_273 : BitVec 32 := 0#32
  ![v19.toNat, 0]
def k0_off4 (d0 : Dev nD) (c512_i32_274 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_10 : BitVec 32 := 4096#32
  let v19 : BitVec 32 := Scalar.muli v8 c4096_i32_10
  let v294 : BitVec 32 := Scalar.addi v19 c512_i32_274
  let c0_i32_279 : BitVec 32 := 0#32
  ![v294.toNat, 0]
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Scatter

open Idealize.ShloMosaic Idealize.ShloMosaic.TcCoe Idealize.SL.Sem
open Cert.KernelIdeal Cert.KernelIdeal.Gen

variable {F : FTy → Type} [FloatOps F]

/-! ## The windows of the kernel, by the chunk's number and its parity -/

/-- The device exchanged with: the other coordinate on the last mesh axis. -/
def peer (c : Dev nD) : Dev nD := ⟨k0_dev1 c, k0_dev1_lt c⟩

/-- The slot a chunk uses: its parity. -/
def par (k : Fin 8) : Fin 2 := ⟨k.val % 2, Nat.mod_lt _ (by decide)⟩

/-- A slot lies in its two-slot buffer. -/
theorem slot_inb : ∀ (p : Fin 2) a, (![p.val, 0, 0] : Fin 3 → Nat) a + S1x512x4096.size a ≤ S2x512x4096.size a := by
  decide
/-- The rows of a chunk lie in a half of the array. -/
theorem row_inb : ∀ (k : Fin 8) a, (![512 * k.val, 0] : Fin 2 → Nat) a + S512x4096.size a ≤ S4096x4096.size a := by
  decide

/-- The rectangle of one slot of a two-slot buffer. -/
abbrev slotRect (p : Fin 2) : Rect S2x512x4096 :=
  Rect.unit (s := S2x512x4096) ![p.val, 0, 0] S1x512x4096.size (slot_inb p)

/-- The rows of chunk `k` in a half of the array. -/
abbrev rowRect (k : Fin 8) : Rect S4096x4096 :=
  Rect.unit (s := S4096x4096) ![512 * k.val, 0] S512x4096.size (row_inb k)

/-- One slot of a two-slot buffer, as a matrix. -/
abbrev slot {e : EltTy} (M : Memref sig .tc .vmem S2x512x4096 e) (p : Fin 2) : Memref sig .tc .vmem S512x4096 e :=
  (M.slice (slotRect p) (fun _ => rfl)).squeeze S512x4096 squeezes_S1x512x4096_S512x4096

/-- The rows of chunk `k`, as a window of a half of the array. -/
abbrev rows {e : EltTy} (M : Memref sig .tc .hbm S4096x4096 e) (k : Fin 8) : Memref sig .tc .hbm S512x4096 e :=
  M.slice (rowRect k) (fun _ => rfl)

/-- Where the rows sent away start. -/
def sendOff (c : Dev nD) : Fin 8 → Fin 2 → Nat
  | ⟨0, _⟩ => k0_off1 c
  | ⟨r + 1, _⟩ => k0_off2 c (BitVec.ofNat 32 (512 + 512 * r))
/-- Where the rows kept start. -/
def keepOff (c : Dev nD) : Fin 8 → Fin 2 → Nat
  | ⟨0, _⟩ => k0_off3 c
  | ⟨r + 1, _⟩ => k0_off4 c (BitVec.ofNat 32 (512 + 512 * r))

/-- The rows sent away lie in the argument. -/
theorem sendOff_inb (c : Dev nD) : ∀ (k : Fin 8) a, sendOff c k a + S512x4096.size a ≤ S8192x4096.size a
  | ⟨0, _⟩ => k0_off1_inb c
  | ⟨r + 1, h⟩ => k0_off2_inb c ⟨r, by omega⟩
/-- The rows kept lie in the argument. -/
theorem keepOff_inb (c : Dev nD) : ∀ (k : Fin 8) a, keepOff c k a + S512x4096.size a ≤ S8192x4096.size a
  | ⟨0, _⟩ => k0_off3_inb c
  | ⟨r + 1, h⟩ => k0_off4_inb c ⟨r, by omega⟩

/-- The rows of chunk `k` that leave the device. -/
abbrev sendWin (M : Memref sig .tc .hbm S8192x4096 .f32) (c : Dev nD) (k : Fin 8) : Memref sig .tc .hbm S512x4096 .f32 :=
  M.slice (Rect.unit (s := S8192x4096) (sendOff c k) S512x4096.size (sendOff_inb c k)) (fun _ => rfl)
/-- The rows of chunk `k` that stay. -/
abbrev keepWin (M : Memref sig .tc .hbm S8192x4096 .f32) (c : Dev nD) (k : Fin 8) : Memref sig .tc .hbm S512x4096 .f32 :=
  M.slice (Rect.unit (s := S8192x4096) (keepOff c k) S512x4096.size (keepOff_inb c k)) (fun _ => rfl)

/-- A slot's semaphore is one of two. -/
theorem sem2_inb : ∀ (p : Fin 2) a, (![p.val] : Fin 1 → Nat) a + S1.size a ≤ S2.size a := by decide
/-- A chunk's semaphore is one of eight. -/
theorem sem8_inb : ∀ (k : Fin 8) a, (![k.val] : Fin 1 → Nat) a + S1.size a ≤ S8.size a := by decide
/-- One semaphore of a pair. -/
def semOf2 (A : DmaSems sig S2) (p : Fin 2) : DmaSem sig :=
  ((A.slice (Rect.unit (s := S2) ![p.val] S1.size (sem2_inb p))).squeeze S_ squeezes_S1_S_).sem
/-- One semaphore of eight. -/
def semOf8 (A : DmaSems sig S8) (k : Fin 8) : DmaSem sig :=
  ((A.slice (Rect.unit (s := S8) ![k.val] S1.size (sem8_inb k))).squeeze S_ squeezes_S1_S_).sem

/-! ## The buffers -/

abbrev mX : Memref sig .tc .hbm S8192x4096 .f32 := Memref.whole main_v1
abbrev mG : Memref sig .tc .vmem S1x4096 .f32 := Memref.whole cc0_stg0_0
abbrev mOut : Memref sig .tc .hbm S4096x4096 .f32 := Memref.whole main_v3_0
abbrev mRecv : Memref sig .tc .hbm S4096x4096 .bf16 := Memref.whole main_v3_1
abbrev mA : Memref sig .tc .vmem S2x512x4096 .f32 := Memref.whole cc0_scratch0
abbrev mS : Memref sig .tc .vmem S2x512x4096 .bf16 := Memref.whole cc0_scratch1
abbrev mB : Memref sig .tc .vmem S2x512x4096 .bf16 := Memref.whole cc0_scratch2
abbrev mO : Memref sig .tc .vmem S2x512x4096 .f32 := Memref.whole cc0_scratch3
abbrev semIn (p : Fin 2) : DmaSem sig := semOf2 cc0_scratch4 p
abbrev semA (p : Fin 2) : DmaSem sig := semOf2 cc0_scratch5 p
abbrev semB (p : Fin 2) : DmaSem sig := semOf2 cc0_scratch6 p
abbrev semO (p : Fin 2) : DmaSem sig := semOf2 cc0_scratch7 p
abbrev semS (k : Fin 8) : DmaSem sig := semOf8 cc0_scratch8 k
abbrev semR (k : Fin 8) : DmaSem sig := semOf8 cc0_scratch9 k
/-- The barrier's semaphore. -/
abbrev semBar : Sem sig := (SemArray.scalar (sig.barrier 0 rfl) : Sems sig S_).sem

/-- A slot of bf16 numbers is made of whole words. -/
theorem words_slot : ∀ p : Fin 2, (slotRect p).WholeWords (EltTy.packing .bf16)
  | ⟨0, _⟩ => wordsbf16_S2x512x4096_S1x512x4096_0_0_0
  | ⟨1, _⟩ => wordsbf16_S2x512x4096_S1x512x4096_1_0_0
/-- A slot of bf16 numbers is made of packed rows. -/
theorem packed_slot : ∀ p : Fin 2, (slotRect p).PackedRows (EltTy.packing .bf16)
  | ⟨0, _⟩ => packedbf16_S2x512x4096_S1x512x4096_0_0_0
  | ⟨1, _⟩ => packedbf16_S2x512x4096_S1x512x4096_1_0_0
/-- A chunk's rows of bf16 numbers are made of whole words. -/
theorem words_row : ∀ k : Fin 8, (rowRect k).WholeWords (EltTy.packing .bf16)
  | ⟨0, _⟩ => wordsbf16_S4096x4096_S512x4096_0_0
  | ⟨1, _⟩ => wordsbf16_S4096x4096_S512x4096_512_0
  | ⟨2, _⟩ => wordsbf16_S4096x4096_S512x4096_1024_0
  | ⟨3, _⟩ => wordsbf16_S4096x4096_S512x4096_1536_0
  | ⟨4, _⟩ => wordsbf16_S4096x4096_S512x4096_2048_0
  | ⟨5, _⟩ => wordsbf16_S4096x4096_S512x4096_2560_0
  | ⟨6, _⟩ => wordsbf16_S4096x4096_S512x4096_3072_0
  | ⟨7, _⟩ => wordsbf16_S4096x4096_S512x4096_3584_0

/-! ## The values -/

/-- What a chunk is turned into before it is sent: narrowed to half the width. -/
def sendVec (v : Vec F S1x512x4096 .f32) : Vec F S1x512x4096 .bf16 := k0_pay1 v
/-- What a chunk of the result is: from the rows kept, the rows received and the weights. -/
def outVec (a : Vec F S1x512x4096 .f32) (b : Vec F S1x512x4096 .bf16) (g : Vec F S1x4096 .f32) : Vec F S1x512x4096 .f32 :=
  k0_pay12 (k0_pay10 a b) (k0_pay11 a b) (Scalar.ofBits .f32 0x358637BD#32) g

/-! ## The operations -/

/-- A sequence of operations of the kernel's body. -/
abbrev Ops (F : FTy → Type) [FloatOps F] (α : Type) := Prog (TpuEff nD τ sig (Elt F) Λ₀ .tc) α

/-- Start the copy of chunk `k`'s rows that leave into its slot. -/
def opIn (c : Dev nD) (k : Fin 8) : Ops F PUnit :=
  Prog.lift (.enqueueDma (sendWin mX c k) (.here (slot mA (par k))) (.dma (semIn (par k)))
    (View.wordExact_bits rfl) ((View.wordExact_bits rfl).reshape _ _) ⟨Or.inl rfl, trivial⟩)
/-- Wait for it. -/
def opInWait (c : Dev nD) (k : Fin 8) : Ops F PUnit :=
  Prog.lift (.waitDma2 (semIn (par k)) (sendWin mX c k) (slot mA (par k)) (View.wordExact_bits rfl) ((View.wordExact_bits rfl).reshape _ _))
/-- Narrow the chunk in its slot. -/
def opNarrow (p : Fin 2) : Ops F PUnit := do
  let v : Vec F S1x512x4096 .f32 ← Prog.lift (.load mA (slotRect p).toLoadRect (View.loadsAt_vmem h_S1x512x4096))
  let _w : Vec F S1x512x4096 .bf16 ← Prog.lift (.load mS (slotRect p).toLoadRect (View.loadsAt_vmem h_S1x512x4096))
  Prog.lift (.store mS (slotRect p) (sendVec v) Finset.univ
    (View.stores_vmem h_S1x512x4096 ((Memref.isWhole_whole cc0_scratch1).storeExact_slice rfl _ (packed_slot p)) (fun _ => rfl)) (.inl rfl))
/-- Send it. -/
def opSend (c : Dev nD) (k : Fin 8) : Ops F PUnit :=
  Prog.lift (.enqueueDma (slot mS (par k)) (.remote (Dev.tc (peer c)) (rows mRecv k) (.dma (semS k))) (.dma (semR k))
    (((Memref.isWhole_whole cc0_scratch1).wordExact_slice rfl _ (words_slot (par k))).reshape _ _)
    ((Memref.isWhole_whole main_v3_1).wordExact_slice rfl _ (words_row k)) ⟨⟨rfl, Or.inl rfl⟩, trivial⟩)
/-- Wait until chunk `k` has left its slot. -/
def opSendWait (k : Fin 8) : Ops F PUnit :=
  Prog.lift (.waitDma2 (semS k) (rows mRecv k) (slot mS (par k)) ((Memref.isWhole_whole main_v3_1).wordExact_slice rfl _ (words_row k))
    (((Memref.isWhole_whole cc0_scratch1).wordExact_slice rfl _ (words_slot (par k))).reshape _ _))
/-- Start the copy of chunk `k`'s rows that stay into its slot. -/
def opKeep (c : Dev nD) (k : Fin 8) : Ops F PUnit :=
  Prog.lift (.enqueueDma (keepWin mX c k) (.here (slot mA (par k))) (.dma (semA (par k)))
    (View.wordExact_bits rfl) ((View.wordExact_bits rfl).reshape _ _) ⟨Or.inl rfl, trivial⟩)
/-- Wait for it. -/
def opKeepWait (c : Dev nD) (k : Fin 8) : Ops F PUnit :=
  Prog.lift (.waitDma2 (semA (par k)) (keepWin mX c k) (slot mA (par k)) (View.wordExact_bits rfl) ((View.wordExact_bits rfl).reshape _ _))
/-- Wait until the partner's chunk `k` has arrived. -/
def opRecvWait (k : Fin 8) : Ops F PUnit :=
  Prog.lift (.waitDma2 (semR k) (slot mS (par k)) (rows mRecv k)
    (((Memref.isWhole_whole cc0_scratch1).wordExact_slice rfl _ (words_slot (par k))).reshape _ _)
    ((Memref.isWhole_whole main_v3_1).wordExact_slice rfl _ (words_row k)))
/-- Bring the received chunk into its slot, and wait for it. -/
def opGet (k : Fin 8) : Ops F PUnit := do
  Prog.lift (.enqueueDma (rows mRecv k) (.here (slot mB (par k))) (.dma (semB (par k)))
    ((Memref.isWhole_whole main_v3_1).wordExact_slice rfl _ (words_row k))
    (((Memref.isWhole_whole cc0_scratch2).wordExact_slice rfl _ (words_slot (par k))).reshape _ _) ⟨Or.inl rfl, trivial⟩)
  Prog.lift (.waitDma2 (semB (par k)) (rows mRecv k) (slot mB (par k)) ((Memref.isWhole_whole main_v3_1).wordExact_slice rfl _ (words_row k))
    (((Memref.isWhole_whole cc0_scratch2).wordExact_slice rfl _ (words_slot (par k))).reshape _ _))
/-- Compute the chunk of the result into its slot. -/
def opCompute (p : Fin 2) : Ops F PUnit := do
  let a : Vec F S1x512x4096 .f32 ← Prog.lift (.load mA (slotRect p).toLoadRect (View.loadsAt_vmem h_S1x512x4096))
  let b : Vec F S1x512x4096 .bf16 ← Prog.lift (.load mB (slotRect p).toLoadRect (View.loadsAt_vmem h_S1x512x4096))
  let g : Vec F S1x4096 .f32 ← Prog.lift (.load mG (Rect.unit (s := S1x4096) ![0, 0] S1x4096.size inb_S1x4096_S1x4096_0_0).toLoadRect
    (View.loadsAt_vmem h_S1x4096))
  let _w : Vec F S1x512x4096 .f32 ← Prog.lift (.load mO (slotRect p).toLoadRect (View.loadsAt_vmem h_S1x512x4096))
  Prog.lift (.store mO (slotRect p) (outVec a b g) Finset.univ
    (View.stores_vmem_bits_univ h_S1x512x4096 rfl) (.inl rfl))
/-- Start the copy of the chunk of the result out of its slot. -/
def opOut (k : Fin 8) : Ops F PUnit :=
  Prog.lift (.enqueueDma (slot mO (par k)) (.here (rows mOut k)) (.dma (semO (par k)))
    ((View.wordExact_bits rfl).reshape _ _) (View.wordExact_bits rfl) ⟨Or.inl rfl, trivial⟩)
/-- Wait for it. -/
def opOutWait (k : Fin 8) : Ops F PUnit :=
  Prog.lift (.waitDma2 (semO (par k)) (slot mO (par k)) (rows mOut k) ((View.wordExact_bits rfl).reshape _ _) (View.wordExact_bits rfl))

/-- One chunk narrowed and sent, its slot being free of an earlier transfer. -/
def send1 (c : Dev nD) (k : Fin 8) : Ops F PUnit := do
  opInWait c k
  opNarrow (par k)
  opSend c k
/-- One chunk narrowed and sent once chunk `j` has left the slot. -/
def send2 (c : Dev nD) (j k : Fin 8) : Ops F PUnit := do
  opInWait c k
  opSendWait j
  opNarrow (par k)
  opSend c k
/-- One chunk of the result computed and its copy started, its slot being free of an earlier transfer. -/
def out1 (c : Dev nD) (k : Fin 8) : Ops F PUnit := do
  opRecvWait k
  opGet k
  opKeepWait c k
  opCompute (par k)
  opOut k
/-- One chunk of the result computed and its copy started once chunk `j` has left the slot. -/
def out2 (c : Dev nD) (j k : Fin 8) : Ops F PUnit := do
  opRecvWait k
  opGet k
  opKeepWait c k
  opOutWait j
  opCompute (par k)
  opOut k

/-- All chunks sent. -/
def sendAll (c : Dev nD) : Ops F PUnit := do
  opIn c 0
  opIn c 1
  send1 c 0
  opIn c 2
  send1 c 1
  opIn c 3
  send2 c 0 2
  opIn c 4
  send2 c 1 3
  opIn c 5
  send2 c 2 4
  opIn c 6
  send2 c 3 5
  opIn c 7
  send2 c 4 6
  send2 c 5 7

/-- All chunks of the result. -/
def outAll (c : Dev nD) : Ops F PUnit := do
  opKeep c 0
  opKeep c 1
  out1 c 0
  opKeep c 2
  out1 c 1
  opKeep c 3
  out2 c 0 2
  opKeep c 4
  out2 c 1 3
  opKeep c 5
  out2 c 2 4
  opKeep c 6
  out2 c 3 5
  opKeep c 7
  out2 c 4 6
  out2 c 5 7
  opOutWait 6
  opOutWait 7

/-- The kernel's body on device `c`. -/
def bodyOn (c : Dev nD) : Ops F PUnit := do
  semSignalWord (peer c) semBar 1#32
  semWaitWord semBar 1#32
  sendAll c
  outAll c
  opSendWait 6
  opSendWait 7

set_option maxRecDepth 65536 in
/-- The kernel's body is the sequence of operations above. -/
theorem body_eq (t : Fin cfg0.N) : bodyAt0 (F := F) t = (do let c ← Prog.lift .deviceId; bodyOn c) := by
  obtain rfl := fin_N0 t
  rfl

end Cert.KernelIdeal.Scatter

end
-- ==== Proof.Steps.lean ====
module

public import Idealize.ShloMosaic.Lib.Transfers
public import Idealize.ShloMosaic.Lib.MemrefSat
public import Idealize.ShloMosaic.Lib.Rounds
public import Idealize.ShloMosaic.Lib.Tactic
public import Idealize.ShloMosaic.PureOps

@[expose] public section

noncomputable section

/-! Steps of a device's program over windows owned at their contents: one window lent to a copy, a copy started and
waited for, one slot of a buffer loaded and stored as a matrix. Nothing here names the kernel. -/

namespace Cert.Steps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A memref owned at some contents. -/
def ownsAny (m : Memref sig c.2.kind sp s e) : sProp 𝕄 := iprop(∃ X, owns c m fullShare X)

/-- The waits recorded so far forgotten: what is owed alone. -/
def owing (O : CellTallies nD τ sig Ix) : sProp 𝕄 := iprop(∃ W, owes c O W)

/-- What a core owes, whatever its waits so far. -/
theorem owing_intro (O : CellTallies nD τ sig Ix) (W : Waits sig Ix) : (owes c O W : sProp 𝕄) ⊢ owing c O := by
  unfold owing; iintro H; iexists W; iexact H

/-- A window of a memref lent out, and the memref got back for it. -/
theorem lend (m : Memref sig c.2.kind sp s e) (q : PosShare TreeShare) (r : Rect s) (hr : ∀ a, r.stride a = 1) (X : s.Idx → Val e) :
    (owns c m q X : sProp 𝕄)
      ⊢ iprop(owns c (m.slice r hr) q (fun i => X (r.emb i)) ∗ (owns c (m.slice r hr) q (fun i => X (r.emb i)) -∗ owns c m q X)) := by
  iintro H
  ihave H := (owns_slice_split c m q r hr X) $$ H
  icases H with ⟨Hs, %f, %hf, Hr⟩
  isplitl [Hs]; · iexact Hs
  iintro Hs
  ihave H := (owns_slice_join c m q r hr (fun i => X (r.emb i)) f) $$ [Hs Hr]
  · isplitl [Hs] <;> iassumption
  have h : r.overlay (m.view.read Val f) (fun i => X (r.emb i)) = X := by
    funext j
    by_cases hj : j ∈ r.set
    · obtain ⟨i, rfl⟩ := r.exists_idx_of_mem hj
      exact Rect.overlay_emb r _ _ i
    · rw [Rect.overlay_of_not_mem _ _ _ hj, hf]
  rw [h]; iexact H

section Copies

variable (EC : UEmb Counters (MT nD τ sig Ix Val Name U Lvl))

/-- A copy started between two windows of one device: at its wait it gives the destination at the source's contents, and
the source back. -/
theorem step_copy [Infinite Name] [EC.LandsIn (upEmb : UEmb _ 𝕄)] {src : Memref sig c.2.kind sp s e} {dst : Memref sig c.2.kind sp' s e} {sm : DmaSem sig}
    {hsrc : src.view.WordExact} {hdst : dst.view.WordExact}
    {hsem : DmaTarget.Typed (nD := nD) sp (SemLoc.dma sm) (.here dst)}
    {k : PUnit → Prog (TpuEff nD τ sig Val Λ c.2) α} {q : PosShare TreeShare} {X : s.Idx → Val e} (ι : Ix) (hs : 0 < s.numel) :
    iprop(owns c src q X ∗ ownsAny c dst ∗ semVal (c, SemLoc.dma sm) 0)
      ⊢ iprop((Transfers.Flight EC c (.dma sm) ι dst.view.dmaCredit iprop(owns c dst fullShare X ∗ owns c src q X)
              -∗ wp frame (wpE defs 𝒱 c bd) Set.univ (k ⟨⟩) Q)
          -∗ wp frame (wpE defs 𝒱 c bd) Set.univ (.op (.enqueueDma src (.here dst) (.dma sm) hsrc hdst hsem) k) Q) := by
  unfold ownsAny
  iintro ⟨Hs, ⟨%Y, Hd⟩, Hv⟩ Hk
  ihave Hs := (show owns c src q X ⊢ iprop(∃ g, ⌜src.view.read Val g = X⌝ ∗ src.view.loc c ↦[src.view.set]{q} g) from .rfl) $$ Hs
  icases Hs with ⟨%fs, %hfs, Hs⟩
  ihave Hd := (show owns c dst fullShare Y ⊢ iprop(∃ g, ⌜dst.view.read Val g = Y⌝ ∗ dst.view.loc c ↦[dst.view.set]{fullShare} g) from .rfl) $$ Hd
  icases Hd with ⟨%fd, %hfd, Hd⟩
  iapply (Transfers.wp_dmaLocal EC 𝒱 c bd (fs := fs) (fd := fd) (q := q) ι dst.view.dmaCredit rfl (View.dmaCredit_pos _ hs)
    (Finset.Subset.refl _)) $$ [Hs Hd Hv]
  · isplitl [Hs]; · iexact Hs
    isplitl [Hd] <;> iassumption
  iintro HF
  iapply Hk
  iapply (Transfers.Flight_mono EC c (D' := iprop(owns c dst fullShare X ∗ owns c src q X)) ?_) $$ HF
  iintro ⟨Hd, Hs⟩
  isplitl [Hd]
  · ihave Hd := (owns_intro c dst fullShare _) $$ Hd
    rw [View.read_write_univ]
    rw [← hfs]; iexact Hd
  · rw [← hfs]; iapply (owns_intro c src q _); iexact Hs

/-- The wait for a copy in flight, by a device that may owe. -/
theorem step_wait [EC.LandsIn (upEmb : UEmb _ 𝕄)] {sp₁ sp₂ : Space} {s₁ s₂ : Shape} {e₁ e₂ : EltTy} {κ' : Kind} {sem : DmaSem sig}
    {srcw : Memref sig c.2.kind sp₁ s₁ e₁} {dstw : Memref sig κ' sp₂ s₂ e₂} {hsrc : srcw.view.WordExact} {hdst : dstw.view.WordExact}
    {k : PUnit → Prog (TpuEff nD τ sig Val Λ c.2) α} (ι : Ix) {D : sProp 𝕄} {O : CellTallies nD τ sig Ix} :
    iprop(Transfers.Flight EC c (.dma sem) ι dstw.view.dmaCredit D ∗ owing c O ∗ MayWait c (.dma sem) ι O)
      ⊢ iprop((iprop(D ∗ semVal (c, SemLoc.dma sem) 0 ∗ owing c O) -∗ wp frame (wpE defs 𝒱 c bd) Set.univ (k ⟨⟩) Q)
          -∗ wp frame (wpE defs 𝒱 c bd) Set.univ (.op (.waitDma2 sem srcw dstw hsrc hdst) k) Q) := by
  unfold owing
  iintro ⟨HF, ⟨%W, HO⟩, Hm⟩ Hk
  iapply (Transfers.wp_waitLocalO EC 𝒱 c bd (W := W) ι rfl) $$ [HF HO Hm]
  · isplitl [HF]; · iexact HF
    isplitl [HO] <;> iassumption
  iintro ⟨HD, Hv, HO⟩
  iapply Hk
  isplitl [HD]; · iexact HD
  isplitl [Hv]; · iexact Hv
  iexists _; iexact HO

end Copies

section Slots

/-- A matrix in the shape of the window it is a squeeze of. -/
def wide {r t : Shape} (h : r.Squeezes t) {β : Type} (X : t.Idx → β) : r.Idx → β := fun i => X ((Shape.reshapeEquiv h.numel_eq).symm i)
/-- Contents of a window as the matrix it squeezes to. -/
def flat {r t : Shape} (h : r.Squeezes t) {β : Type} (Z : r.Idx → β) : t.Idx → β := fun j => Z (Shape.reshapeEquiv h.numel_eq j)

/-- Reshaping a window to a matrix and back changes nothing. -/
theorem wide_flat {r t : Shape} (h : r.Squeezes t) {β : Type} (Z : r.Idx → β) : wide h (flat h Z) = Z := by
  funext i; unfold wide flat; rw [Equiv.apply_symm_apply]

variable {cs : CoreSpace} {m : Memref sig c.2.kind cs s e} {r : Rect s} {hr : ∀ a, r.stride a = 1} {t : Shape}

/-- A window of a memref held as a matrix loads its contents in the window's own shape. -/
theorem step_load {h : r.shape.Squeezes t} {hl : m.view.LoadsAt r.toLoadRect}
    {k : (r.shape.Idx → Val e) → Prog (TpuEff nD τ sig Val Λ c.2) α} {q : PosShare TreeShare} {X : t.Idx → Val e} :
    (owns c ((m.slice r hr).squeeze t h) q X : sProp 𝕄)
      ⊢ iprop((owns c ((m.slice r hr).squeeze t h) q X -∗ wp frame (wpE defs 𝒱 c bd) Set.univ (k (wide h X)) Q)
          -∗ wp frame (wpE defs 𝒱 c bd) Set.univ (.op (.load m r.toLoadRect hl) k) Q) := by
  iintro H Hk
  ihave H := (show owns c ((m.slice r hr).squeeze t h) q X ⊢ iprop(∃ g, ⌜((m.access r).reshape t h.numel_eq).read Val g = X⌝
    ∗ (m.access r).loc c ↦[((m.access r).reshape t h.numel_eq).set]{q} g) from .rfl) $$ H
  icases H with ⟨%f, %hf, H⟩
  rw [View.set_reshape]
  have hw : (m.access r : View sig c.2.kind _ _ _).read Val f = wide h X := by
    rw [← hf, ← wide_flat h ((m.access r).read Val f)]; rfl
  iapply (wp_load_rect (U := U) (Ix := Ix) (Name := Name) (Lvl := Lvl) 𝒱 c bd Set.univ (S := (m.access r).set) (f := f) (q := q) (Finset.Subset.refl _)) $$ H
  rw [hw]
  iintro H
  iapply Hk
  rw [← hf]
  iapply (owns_intro c ((m.slice r hr).squeeze t h) q f)
  rw [show ((m.slice r hr).squeeze t h).view.set = (m.access r).set from View.set_reshape ..]
  iexact H

/-- A store through the window leaves the stored contents, as a matrix. -/
theorem step_store {h : r.shape.Squeezes t} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} :
    (ownsAny c ((m.slice r hr).squeeze t h) : sProp 𝕄)
      ⊢ iprop((owns c ((m.slice r hr).squeeze t h) fullShare (flat h w) -∗ wp frame (wpE defs 𝒱 c bd) Set.univ (k ⟨⟩) Q)
          -∗ wp frame (wpE defs 𝒱 c bd) Set.univ (.op (.store m r w Finset.univ hx hm) k) Q) := by
  unfold ownsAny
  iintro ⟨%X, H⟩ Hk
  ihave H := (show owns c ((m.slice r hr).squeeze t h) fullShare X ⊢ iprop(∃ g, ⌜((m.access r).reshape t h.numel_eq).read Val g = X⌝
    ∗ (m.access r).loc c ↦[((m.access r).reshape t h.numel_eq).set]{fullShare} g) from .rfl) $$ H
  icases H with ⟨%f, %hf, H⟩
  rw [View.set_reshape]
  iapply (wp_store 𝒱 c bd Set.univ (S := (m.access r).set) (by rw [View.setOn_univ])) $$ H
  iintro H
  iapply Hk
  have hw : ((m.slice r hr).squeeze t h).view.read Val ((m.access r).write Val f w Finset.univ) = flat h w := by
    have e1 : ((m.slice r hr).squeeze t h).view.read Val ((m.access r).write Val f w Finset.univ)
      = flat h ((m.access r).read Val ((m.access r).write Val f w Finset.univ)) := rfl
    rw [e1, View.read_write_univ]
  rw [← hw]
  iapply (owns_intro c ((m.slice r hr).squeeze t h) fullShare _)
  rw [show ((m.slice r hr).squeeze t h).view.set = (m.access r).set from View.set_reshape ..]
  iexact H

/-- What a window is loaded at may be forgotten. -/
theorem ownsAny_intro (m : Memref sig c.2.kind sp s e) (X : s.Idx → Val e) : (owns c m fullShare X : sProp 𝕄) ⊢ ownsAny c m := by
  unfold ownsAny; iintro H; iexists X; iexact H

end Slots

end Cert.Steps

end
-- ==== Proof.Proto.lean ====
module

public import proofs.«01_k».proof.Proof.Prog
public import proofs.«01_k».proof.Proof.Steps
public import Idealize.ShloMosaic.Lib.Pipeline.Kit

@[expose] public section

noncomputable section

/-! The agreement between the devices of a pair: which semaphore carries what, what each owes, and what a device knows of
the other's semaphores. -/

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

/-! ## The ghost state -/

/-- The staging windows' part, the agreement's part, and the counters of the local copies. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
/-- The agreement's part of the ghost state. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ (MT nD τ sig Unit (Elt F) ℕ UU ℕ)) := by
  unfold ER; infer_instance
abbrev EC : UEmb Counters (MT nD τ sig Unit (Elt F) ℕ UU ℕ) := countersEmb

/-! ## The pairs -/

/-- A device's partner's partner is the device. -/
theorem peer_peer : ∀ c : Dev nD, peer (peer c) = c := by decide +kernel
/-- Each device and the one it exchanges with. -/
def swap : Dev nD ≃ Dev nD := ⟨peer, peer, peer_peer, peer_peer⟩

/-! ## The semaphores by what they carry -/

/-- What a semaphore is for. -/
inductive Role where
  | idle | barrier | sent (k : Fin 8) | got (k : Fin 8)
  deriving DecidableEq

/-- The use of each semaphore of a device. -/
def role : SemLoc sig → Role
  | .reg _ => .barrier
  | .dma d =>
    if h : 9 ≤ d.val ∧ d.val < 17 then .sent ⟨d.val - 9, by omega⟩
    else if h : 17 ≤ d.val ∧ d.val < 25 then .got ⟨d.val - 17, by omega⟩
    else .idle

/-- The barrier's semaphore is used as a barrier. -/
theorem role_bar : role (.reg semBar) = .barrier := rfl
/-- The send semaphore of a chunk carries the chunk's departure. -/
theorem role_sent : ∀ k : Fin 8, role (.dma (semS k)) = .sent k := by decide +kernel
/-- The receive semaphore of a chunk carries the chunk's arrival. -/
theorem role_got : ∀ k : Fin 8, role (.dma (semR k)) = .got k := by decide +kernel
/-- The semaphores of the copies of rows that leave carry nothing of the agreement. -/
theorem role_in : ∀ p : Fin 2, role (.dma (semIn p)) = .idle := by decide +kernel
/-- Nor do those of the copies of rows that stay. -/
theorem role_a : ∀ p : Fin 2, role (.dma (semA p)) = .idle := by decide +kernel
/-- Nor do those of the copies of rows received. -/
theorem role_b : ∀ p : Fin 2, role (.dma (semB p)) = .idle := by decide +kernel
/-- Nor do those of the copies of rows of the result. -/
theorem role_o : ∀ p : Fin 2, role (.dma (semO p)) = .idle := by decide +kernel

abbrev barCell (c : Dev nD) : GSem nD τ sig := ((c : Thread nD τ), .reg semBar)
abbrev sentCell (c : Dev nD) (k : Fin 8) : GSem nD τ sig := ((c : Thread nD τ), .dma (semS k))
abbrev gotCell (c : Dev nD) (k : Fin 8) : GSem nD τ sig := ((c : Thread nD τ), .dma (semR k))

/-- The units a chunk's transfer credits. -/
abbrev N : ℕ := (rows mRecv 0).view.dmaCredit
/-- A chunk's transfer credits something. -/
theorem N_pos : 0 < N := View.dmaCredit_pos _ (by decide +kernel)

/-! ## The values -/

variable (x : Dev nD → S8192x4096.Idx → Elt F .f32)

/-- Chunk `k` of the rows of `c` that leave, as a matrix. -/
def leaving (c : Dev nD) (k : Fin 8) : S512x4096.Idx → Elt F .f32 :=
  fun i => x c ((Rect.unit (s := S8192x4096) (sendOff c k) S512x4096.size (sendOff_inb c k)).emb i)
/-- Chunk `k` of the rows of `c` that stay. -/
def staying (c : Dev nD) (k : Fin 8) : S512x4096.Idx → Elt F .f32 :=
  fun i => x c ((Rect.unit (s := S8192x4096) (keepOff c k) S512x4096.size (keepOff_inb c k)).emb i)
abbrev sq : S1x512x4096.Squeezes S512x4096 := squeezes_S1x512x4096_S512x4096
/-- What `c` sends as chunk `k`. -/
def sending (c : Dev nD) (k : Fin 8) : S512x4096.Idx → Elt F .bf16 := flat sq (sendVec (wide sq (leaving x c k)))
/-- Chunk `k` of the result on `c`. -/
def result (g : S1x4096.Idx → Elt F .f32) (c : Dev nD) (k : Fin 8) : S512x4096.Idx → Elt F .f32 :=
  flat sq (outVec (wide sq (staying x c k)) (wide sq (sending x (peer c) k)) g)

/-! ## The agreement -/

/-- Paid to the barrier of `c` by its partner: where the partner's chunks are to land, ready to receive. -/
def barPay (c : Dev nD) : sProp 𝕄 :=
  bigSep Finset.univ fun k : Fin 8 => iprop(ownsAny (peer c : Thread nD τ) (rows mRecv k) ∗ reached ER (gotCell (peer c) k) 0)
/-- Paid by the send: the slot again. -/
def sentPay (c : Dev nD) (k : Fin 8) : sProp 𝕄 := ownsAny (c : Thread nD τ) (slot mS (par k))
/-- Paid by the partner's send: the rows at what it sent. -/
def gotPay (c : Dev nD) (k : Fin 8) : sProp 𝕄 := owns (c : Thread nD τ) (rows mRecv k) fullShare (sending x (peer c) k)

/-- One payment at each barrier, each chunk's departure and each chunk's arrival. -/
def deal : Rounds.Schedule (GSem nD τ sig) Unit 𝕄 where
  duties g r := if r = 0 ∧ g.1.2 = .tc ∧ role g.2 ≠ .idle then {()} else ∅
  unitless _ := False
  amount g _ _ := if role g.2 = .barrier then 1 else N
  payload g _ _ := match role g.2 with
    | .idle => iprop(emp)
    | .barrier => barPay g.1.1
    | .sent k => sentPay g.1.1 k
    | .got k => gotPay x g.1.1 k
  amount_pos g _ _ _ := by
    split
    · exact Nat.one_pos
    · exact N_pos

instance deal_storable (g : GSem nD τ sig) (r : ℕ) (d : Unit) : BI.Storable (upEmb : UEmb _ 𝕄) ((deal (F := F) x).payload g r d) := by
  dsimp only [deal]
  unfold barPay sentPay gotPay ownsAny
  split <;> infer_instance

section Facts

variable (c : Dev nD) (k : Fin 8)

/-- A semaphore with a use has one payment in the first round. -/
theorem duties_of {g : GSem nD τ sig} (h₁ : g.1.2 = .tc) (h₂ : role g.2 ≠ .idle) : (deal (F := F) x).duties g 0 = {()} := by
  dsimp only [deal]; exact if_pos ⟨rfl, h₁, h₂⟩
/-- No payment is due after the first round. -/
theorem duties_later (g : GSem nD τ sig) : ∀ r, 1 ≤ r → (deal (F := F) x).duties g r = ∅ :=
  fun r hr => by dsimp only [deal]; exact if_neg fun h => by omega
/-- The barrier's payment. -/
theorem duties_bar : (deal (F := F) x).duties (barCell c) 0 = {()} := duties_of x rfl (by rw [role_bar]; decide)
/-- A departure's payment. -/
theorem duties_sent : (deal (F := F) x).duties (sentCell c k) 0 = {()} := duties_of x rfl (by rw [role_sent]; exact fun h => by cases h)
/-- An arrival's payment. -/
theorem duties_got : (deal (F := F) x).duties (gotCell c k) 0 = {()} := duties_of x rfl (by rw [role_got]; exact fun h => by cases h)

/-- The barrier is paid one unit. -/
theorem amount_bar (u : Unit) : (deal (F := F) x).amount (barCell c) 0 u = 1 := by dsimp only [deal]; exact if_pos role_bar
/-- A departure is paid what a chunk's transfer credits. -/
theorem amount_sent (u : Unit) : (deal (F := F) x).amount (sentCell c k) 0 u = N := by
  dsimp only [deal]; rw [role_sent]; exact if_neg fun h => by cases h
/-- So is an arrival. -/
theorem amount_got (u : Unit) : (deal (F := F) x).amount (gotCell c k) 0 u = N := by
  dsimp only [deal]; rw [role_got]; exact if_neg fun h => by cases h

/-- What the barrier's payment hands over. -/
theorem payload_bar (u : Unit) : (deal (F := F) x).payload (barCell c) 0 u = barPay c := rfl
/-- What a departure hands over. -/
theorem payload_sent (u : Unit) : (deal (F := F) x).payload (sentCell c k) 0 u = sentPay c k := by dsimp only [deal]; rw [role_sent]
/-- What an arrival hands over. -/
theorem payload_got (u : Unit) : (deal (F := F) x).payload (gotCell c k) 0 u = gotPay x c k := by dsimp only [deal]; rw [role_got]

/-- What a cell expects in round 0 is the amount of its one payment. -/
theorem expect_of {g : GSem nD τ sig} {n : ℕ} (h : (deal (F := F) x).duties g 0 = {()}) (ha : (deal (F := F) x).amount g 0 () = n) :
    (deal (F := F) x).expect g 0 = n := by
  unfold Schedule.expect Schedule.amountOf; rw [h, Finset.sum_singleton, ha]
/-- What a cell pays out in round 0 is its one payment. -/
theorem paid_of {g : GSem nD τ sig} {P : sProp 𝕄} (h : (deal (F := F) x).duties g 0 = {()}) (hp : (deal (F := F) x).payload g 0 () = P) :
    bigSep ((deal (F := F) x).duties g 0 \ ∅) (fun u => (deal (F := F) x).payload g 0 u) = P := by
  rw [Finset.sdiff_empty, h, bigSep_singleton, hp]

end Facts

/-! ## What a device owes; the order of the semaphores -/

/-- The arrivals the partner still waits for from `n` on. -/
def due (c : Dev nD) (n : ℕ) : CellTallies nD τ sig Unit :=
  ∑ k ∈ Finset.univ.filter (fun k : Fin 8 => n ≤ k.val), tallyAt (gotCell (peer c) k) () N
/-- What a device owes at the start: all arrivals and the barrier. -/
def O₀ (c : Dev nD) : CellTallies nD τ sig Unit := due c 0 + tallyAt (barCell (peer c)) () 1

/-- What is owed from chunk `k` on is chunk `k`'s arrival at the partner and what is owed after it. -/
theorem due_step (c : Dev nD) (k : Fin 8) : due c k.val = due c (k.val + 1) + tallyAt (gotCell (peer c) k) () N := by
  unfold due
  have h : Finset.univ.filter (fun j : Fin 8 => k.val ≤ j.val) = insert k (Finset.univ.filter fun j : Fin 8 => k.val + 1 ≤ j.val) := by
    ext j
    simp only [Finset.mem_filter, Finset.mem_univ, true_and, Finset.mem_insert, Fin.ext_iff]
    omega
  rw [h, Finset.sum_insert (by simp), add_comm]
/-- After the last chunk nothing is owed. -/
theorem due_last (c : Dev nD) : due c 8 = 0 := by
  unfold due
  rw [show Finset.univ.filter (fun k : Fin 8 => 8 ≤ k.val) = ∅ from by decide]
  rfl

/-- Only arrivals at the partner are ever owed in the loop. -/
theorem due_pos {c : Dev nD} {n : ℕ} {g : GSem nD τ sig} {u : Unit} (h : 0 < due c n g u) : ∃ k, g = gotCell (peer c) k := by
  unfold due at h
  rw [Finset.sum_apply, Finsupp.finset_sum_apply] at h
  obtain ⟨k, -, hk⟩ := Finset.exists_ne_zero_of_sum_ne_zero (Nat.pos_iff_ne_zero.mp h)
  rw [tallyAt_apply] at hk
  refine ⟨k, ?_⟩
  by_contra hne
  exact hk (if_neg fun hh => hne hh.1)

def L (g : GSem nD τ sig) : Finset Unit := if g.1.2 = .tc then {()} else ∅
/-- The order: local copies and departures first, then the barrier, then the arrivals. -/
def lv (g : GSem nD τ sig) (_ : Unit) : ℕ :=
  match role g.2 with
  | .barrier => 1
  | .got _ => 2
  | _ => 0

/-- No level is given off the core that runs the kernel. -/
theorem L_of_ne (g : GSem nD τ sig) (h : g.1.2 ≠ .tc) : L g = ∅ := if_neg h
/-- On that core every semaphore has one. -/
theorem L_tc (c : Dev nD) (sm : SemLoc sig) : L ((c : Thread nD τ), sm) = {()} := if_pos rfl
/-- Arrivals are at the highest level. -/
theorem lv_got (c : Dev nD) (k : Fin 8) (u : Unit) : lv (gotCell c k) u = 2 := by unfold lv; rw [role_got]
/-- The barrier is in the middle. -/
theorem lv_bar (c : Dev nD) (u : Unit) : lv (barCell c) u = 1 := rfl
/-- Departures are at the lowest. -/
theorem lv_sent (c : Dev nD) (k : Fin 8) (u : Unit) : lv (sentCell c k) u = 0 := by unfold lv; rw [role_sent]
/-- The level of a semaphore outside the agreement. -/
theorem lv_idle {c : Dev nD} {sm : SemLoc sig} (h : role sm = .idle) (u : Unit) : lv ((c : Thread nD τ), sm) u = 0 := by unfold lv; rw [h]

/-- A device may wait on any semaphore below the arrivals while it owes only arrivals. -/
theorem mayWait (c : Dev nD) (sm : SemLoc sig) (n : ℕ) (h : lv ((c : Thread nD τ), sm) () ≤ 1) :
    (levAts L lv : sProp 𝕄) ⊢ MayWait (c : Thread nD τ) sm () (due c n) :=
  MayOwe.of_cut (L := L) (lev := lv) 1 (fun p hp => by rw [Finset.mem_singleton.mp hp, L_tc]; exact Finset.mem_singleton_self _)
    (fun g u hg => by obtain ⟨k, rfl⟩ := due_pos hg; rw [L_tc]; exact Finset.mem_singleton_self _)
    (fun p hp => by rw [Finset.mem_singleton.mp hp]; exact h)
    (fun g u hg => by obtain ⟨k, rfl⟩ := due_pos hg; rw [lv_got]; decide)

/-! ## What every device may consult -/

def barEmb : Dev nD ↪ GSem nD τ sig := ⟨fun c => barCell c, fun _ _ h => congrArg (fun g : GSem nD τ sig => g.1.1) h⟩
/-- The semaphores of the chunks' departures and arrivals. -/
def chunkSem (p : Fin 2 × Fin 8) : SemLoc sig := if p.1 = 0 then .dma (semS p.2) else .dma (semR p.2)
/-- The use of a chunk's semaphore, by its kind. -/
theorem role_chunk (p : Fin 2 × Fin 8) : role (chunkSem p) = if p.1 = 0 then .sent p.2 else .got p.2 := by
  unfold chunkSem; split
  · exact role_sent _
  · exact role_got _
/-- Chunks' semaphores are pairwise distinct. -/
theorem chunkSem_inj : Function.Injective chunkSem := by
  intro p q h
  have h' := congrArg role h
  rw [role_chunk, role_chunk] at h'
  obtain ⟨a, i⟩ := p; obtain ⟨b, j⟩ := q
  fin_cases a <;> fin_cases b <;> simp_all
def chunkEmb : Dev nD × (Fin 2 × Fin 8) ↪ GSem nD τ sig :=
  ⟨fun ck => ((ck.1 : Thread nD τ), chunkSem ck.2), fun _ _ h =>
    Prod.ext (congrArg (fun g : GSem nD τ sig => g.1.1) h) (chunkSem_inj (congrArg Prod.snd h))⟩
abbrev barCells : Finset (GSem nD τ sig) := Finset.univ.map barEmb
abbrev chunkCells : Finset (GSem nD τ sig) := Finset.univ.map chunkEmb

/-- A barrier is one of the agreement's cells. -/
theorem bar_mem (c : Dev nD) : barCell c ∈ (barCells ∪ chunkCells : Finset (GSem nD τ sig)) :=
  Finset.mem_union_left _ (Finset.mem_map_of_mem barEmb (Finset.mem_univ c))
/-- So is a departure. -/
theorem sent_mem (c : Dev nD) (k : Fin 8) : sentCell c k ∈ (barCells ∪ chunkCells : Finset (GSem nD τ sig)) :=
  Finset.mem_union_right _ (Finset.mem_map_of_mem chunkEmb (Finset.mem_univ (c, ((0 : Fin 2), k))))
/-- So is an arrival. -/
theorem got_mem (c : Dev nD) (k : Fin 8) : gotCell c k ∈ (barCells ∪ chunkCells : Finset (GSem nD τ sig)) :=
  Finset.mem_union_right _ (Finset.mem_map_of_mem chunkEmb (Finset.mem_univ (c, ((1 : Fin 2), k))))

/-- Every cell's invariant under one map of names, and round 0 of every barrier reached. -/
def records (κ : GSem nD τ sig → ℕ) : sProp 𝕄 :=
  iprop((bigSep (barCells ∪ chunkCells) fun g => cellInv ER (deal x) (κ g) g) ∗ bigSep barCells fun g => reached ER g 0)

instance records_persistent (κ : GSem nD τ sig → ℕ) : BI.Persistent (records x κ) := by unfold records; infer_instance

/-- The record of all cells holds each cell's. -/
theorem inv_at (κ : GSem nD τ sig → ℕ) {g : GSem nD τ sig} (hg : g ∈ (barCells ∪ chunkCells : Finset (GSem nD τ sig))) :
    (records x κ : sProp 𝕄) ⊢ cellInv ER (deal x) (κ g) g := by
  unfold records
  iintro ⟨#H, -⟩
  iapply (show (bigSep (barCells ∪ chunkCells) fun g => cellInv ER (deal x) (κ g) g : sProp 𝕄) ⊢ cellInv ER (deal x) (κ g) g from bigSep_elim hg)
  iexact H
/-- The record of all cells says that each barrier is in its first round. -/
theorem reached_at (κ : GSem nD τ sig → ℕ) (c : Dev nD) : (records x κ : sProp 𝕄) ⊢ reached ER (barCell c) 0 := by
  unfold records
  iintro ⟨-, #H⟩
  iapply (show (bigSep barCells fun g => reached ER g 0 : sProp 𝕄) ⊢ reached ER (barCell c) 0 from
    bigSep_elim (Finset.mem_map_of_mem barEmb (Finset.mem_univ c)))
  iexact H

end Cert.KernelIdeal.Scatter

end
-- ==== Proof.Ops.lean ====
module

public import proofs.«01_k».proof.Proof.Proto

@[expose] public section

noncomputable section

/-! Each operation of the kernel's body: what it asks of the device and what it leaves. -/

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

variable (x : Dev nD → S8192x4096.Idx → Elt F .f32) (g : S1x4096.Idx → Elt F .f32)

/-- A sequence of operations on device `c` ends in `Q`. -/
abbrev Run (c : Dev nD) {α : Type} (p : Ops F α) (Q : α → sProp (MT nD τ sig Unit (Elt F) ℕ UU ℕ)) : sProp (MT nD τ sig Unit (Elt F) ℕ UU ℕ) :=
  wp frame (wpE (defs₀ (F := F)) Variants.none (c : Thread nD τ) none) Set.univ p Q

variable {α : Type} {Q : α → sProp (MT nD τ sig Unit (Elt F) ℕ UU ℕ)} {f : PUnit → Ops F α}

/-- A chunk is not empty. -/
theorem chunk_numel : 0 < S512x4096.numel := by decide +kernel

/-! ## Rows of the argument brought into a slot -/

/-- Rows of the argument, from any row on. -/
abbrev win (o : Fin 2 → Nat) (h : ∀ a, o a + S512x4096.size a ≤ S8192x4096.size a) : Memref sig .tc .hbm S512x4096 .f32 :=
  mX.slice (Rect.unit (s := S8192x4096) o S512x4096.size h) (fun _ => rfl)
/-- What they hold. -/
abbrev rowsAt (c : Dev nD) (o : Fin 2 → Nat) (h : ∀ a, o a + S512x4096.size a ≤ S8192x4096.size a) : S512x4096.Idx → Elt F .f32 :=
  fun i => x c ((Rect.unit (s := S8192x4096) o S512x4096.size h).emb i)

/-- Rows under way into a slot, and the share of the argument they were lent from to be had back for them. -/
def Fetch (c : Dev nD) (o : Fin 2 → Nat) (h : ∀ a, o a + S512x4096.size a ≤ S8192x4096.size a) (p : Fin 2) (sm : DmaSem sig)
    (q : PosShare TreeShare) : sProp 𝕄 :=
  iprop(Transfers.Flight EC (c : Thread nD τ) (.dma sm) () (slot mA p).view.dmaCredit
      iprop(owns (c : Thread nD τ) (slot mA p) fullShare (rowsAt x c o h) ∗ owns (c : Thread nD τ) (win o h) q (rowsAt x c o h))
    ∗ (owns (c : Thread nD τ) (win o h) q (rowsAt x c o h) -∗ owns (c : Thread nD τ) mX q (x c)))

/-- A copy of rows into a free slot begins. -/
theorem fetch_start (c : Dev nD) (o : Fin 2 → Nat) (h : ∀ a, o a + S512x4096.size a ≤ S8192x4096.size a) (p : Fin 2) (sm : DmaSem sig)
    (q : PosShare TreeShare) {hs hd ht} :
    iprop(owns (c : Thread nD τ) mX q (x c) ∗ ownsAny (c : Thread nD τ) (slot mA p) ∗ semVal ((c : Thread nD τ), .dma sm) 0)
      ⊢ iprop((Fetch x c o h p sm q -∗ Run c (f ⟨⟩) Q)
        -∗ Run c (.op (.enqueueDma (win o h) (.here (slot mA p)) (.dma sm) hs hd ht) f) Q) := by
  iintro ⟨Hx, Ha, Hv⟩ Hk
  ihave H := (lend (c : Thread nD τ) mX q (Rect.unit (s := S8192x4096) o S512x4096.size h) (fun _ => rfl) (x c)) $$ Hx
  icases H with ⟨Hw, Hback⟩
  iapply (step_copy Variants.none (c : Thread nD τ) none EC () chunk_numel) $$ [Hw Ha Hv]
  · isplitl [Hw]; · iexact Hw
    isplitl [Ha] <;> iassumption
  iintro HF
  iapply Hk
  unfold Fetch
  isplitl [HF]; · iexact HF
  iexact Hback

/-- Its wait: the slot holds the rows, the share is whole again. -/
theorem fetch_wait (c : Dev nD) (o : Fin 2 → Nat) (h : ∀ a, o a + S512x4096.size a ≤ S8192x4096.size a) (p : Fin 2) (sm : DmaSem sig)
    (q : PosShare TreeShare) (O : CellTallies nD τ sig Unit) {hs hd} :
    iprop(Fetch x c o h p sm q ∗ owing (c : Thread nD τ) O ∗ MayWait (c : Thread nD τ) (.dma sm) () O)
      ⊢ iprop((iprop(owns (c : Thread nD τ) mX q (x c) ∗ owns (c : Thread nD τ) (slot mA p) fullShare (rowsAt x c o h)
            ∗ semVal ((c : Thread nD τ), .dma sm) 0 ∗ owing (c : Thread nD τ) O) -∗ Run c (f ⟨⟩) Q)
        -∗ Run c (.op (.waitDma2 sm (win o h) (slot mA p) hs hd) f) Q) := by
  unfold Fetch
  iintro ⟨⟨HF, Hback⟩, HO, Hm⟩ Hk
  iapply (step_wait Variants.none (c : Thread nD τ) none EC ()) $$ [HF HO Hm]
  · isplitl [HF]; · iexact HF
    isplitl [HO] <;> iassumption
  iintro ⟨⟨Ha, Hw⟩, Hv, HO⟩
  iapply Hk
  isplitl [Hw Hback]; · iapply Hback; iexact Hw
  isplitl [Ha]; · iexact Ha
  isplitl [Hv] <;> iassumption

/-- Chunk `k` of the rows that leave, under way into its slot. -/
abbrev InF (c : Dev nD) (k : Fin 8) (q : PosShare TreeShare) : sProp 𝕄 :=
  Fetch x c (sendOff c k) (sendOff_inb c k) (par k) (semIn (par k)) q
/-- Chunk `k` of the rows that stay, under way into its slot. -/
abbrev KeepF (c : Dev nD) (k : Fin 8) (q : PosShare TreeShare) : sProp 𝕄 :=
  Fetch x c (keepOff c k) (keepOff_inb c k) (par k) (semA (par k)) q

/-- Starting the copy of chunk `k`'s rows that leave: the slot goes with it, and a share of the argument's rows. -/
theorem in_start (c : Dev nD) (k : Fin 8) (q : PosShare TreeShare) :
    iprop(owns (c : Thread nD τ) mX q (x c) ∗ ownsAny (c : Thread nD τ) (slot mA (par k)) ∗ semVal ((c : Thread nD τ), .dma (semIn (par k))) 0)
      ⊢ iprop((InF x c k q -∗ Run c (f ⟨⟩) Q) -∗ Run c (opIn c k >>= f) Q) :=
  fetch_start x c (sendOff c k) (sendOff_inb c k) (par k) (semIn (par k)) q
/-- Starting the copy of chunk `k`'s rows that stay: the slot goes with it, and a share of the argument's rows. -/
theorem keep_start (c : Dev nD) (k : Fin 8) (q : PosShare TreeShare) :
    iprop(owns (c : Thread nD τ) mX q (x c) ∗ ownsAny (c : Thread nD τ) (slot mA (par k)) ∗ semVal ((c : Thread nD τ), .dma (semA (par k))) 0)
      ⊢ iprop((KeepF x c k q -∗ Run c (f ⟨⟩) Q) -∗ Run c (opKeep c k >>= f) Q) :=
  fetch_start x c (keepOff c k) (keepOff_inb c k) (par k) (semA (par k)) q
/-- Waiting for that copy gives back the slot at the rows that leave. -/
theorem in_wait (c : Dev nD) (k : Fin 8) (q : PosShare TreeShare) (n : ℕ) :
    iprop(InF x c k q ∗ owing (c : Thread nD τ) (due c n) ∗ levAts L lv)
      ⊢ iprop((iprop(owns (c : Thread nD τ) mX q (x c) ∗ owns (c : Thread nD τ) (slot mA (par k)) fullShare (leaving x c k)
            ∗ semVal ((c : Thread nD τ), .dma (semIn (par k))) 0 ∗ owing (c : Thread nD τ) (due c n)) -∗ Run c (f ⟨⟩) Q)
        -∗ Run c (opInWait c k >>= f) Q) := by
  iintro ⟨HF, HO, #Hlev⟩
  iapply (fetch_wait x c (sendOff c k) (sendOff_inb c k) (par k) (semIn (par k)) q (due c n))
  isplitl [HF]; · iexact HF
  isplitl [HO]; · iexact HO
  iapply (mayWait c _ n (by rw [lv_idle (role_in _)]; decide)); iexact Hlev
/-- Waiting for that copy gives back the slot at the rows that stay. -/
theorem keep_wait (c : Dev nD) (k : Fin 8) (q : PosShare TreeShare) :
    iprop(KeepF x c k q ∗ owing (c : Thread nD τ) 0)
      ⊢ iprop((iprop(owns (c : Thread nD τ) mX q (x c) ∗ owns (c : Thread nD τ) (slot mA (par k)) fullShare (staying x c k)
            ∗ semVal ((c : Thread nD τ), .dma (semA (par k))) 0 ∗ owing (c : Thread nD τ) 0) -∗ Run c (f ⟨⟩) Q)
        -∗ Run c (opKeepWait c k >>= f) Q) := by
  iintro ⟨HF, HO⟩
  iapply (fetch_wait x c (keepOff c k) (keepOff_inb c k) (par k) (semA (par k)) q 0)
  isplitl [HF]; · iexact HF
  isplitl [HO]; · iexact HO
  rw [MayWait_zero]; iempintro

/-! ## A chunk narrowed, sent, and its slot had back -/

/-- The narrowing's operations one by one. -/
theorem narrow_ops (p : Fin 2) : (opNarrow p >>= f) = (.op (.load mA (slotRect p).toLoadRect (View.loadsAt_vmem h_S1x512x4096)) fun v =>
    .op (.load mS (slotRect p).toLoadRect (View.loadsAt_vmem h_S1x512x4096)) fun _ => .op (.store mS (slotRect p) (sendVec v) Finset.univ
      (View.stores_vmem h_S1x512x4096 ((Memref.isWhole_whole cc0_scratch1).storeExact_slice rfl _ (packed_slot p)) (fun _ => rfl)) (.inl rfl)) f : Ops F α) := rfl

/-- Rounding a slot into the slot that is sent. -/
theorem narrow_step (c : Dev nD) (p : Fin 2) (X : S512x4096.Idx → Elt F .f32) :
    iprop(owns (c : Thread nD τ) (slot mA p) fullShare X ∗ ownsAny (c : Thread nD τ) (slot mS p))
      ⊢ iprop((iprop(owns (c : Thread nD τ) (slot mA p) fullShare X ∗ owns (c : Thread nD τ) (slot mS p) fullShare (flat sq (sendVec (wide sq X))))
          -∗ Run c (f ⟨⟩) Q) -∗ Run c (opNarrow p >>= f) Q) := by
  rw [narrow_ops]
  iintro ⟨Ha, Hs⟩ Hk
  iapply (step_load Variants.none (c : Thread nD τ) none (h := sq)) $$ Ha
  iintro Ha
  unfold ownsAny
  icases Hs with ⟨%Y, Hs⟩
  iapply (step_load Variants.none (c : Thread nD τ) none (h := sq)) $$ Hs
  iintro Hs
  ihave Hs := (ownsAny_intro (c : Thread nD τ) (slot mS p) Y) $$ Hs
  iapply (step_store Variants.none (c : Thread nD τ) none (h := sq)) $$ Hs
  iintro Hs
  iapply Hk
  isplitl [Ha] <;> iassumption

/-- What a device needs to send chunk `k`: the right to pay for its departure and its arrival, and where it lands. -/
def Ticket (c : Dev nD) (k : Fin 8) : sProp 𝕄 :=
  iprop(dutyTok ER (sentCell c k) 0 () ∗ reached ER (sentCell c k) 0 ∗ dutyTok ER (gotCell (peer c) k) 0 () ∗ reached ER (gotCell (peer c) k) 0
    ∗ ownsAny (peer c : Thread nD τ) (rows mRecv k))

/-- Sending chunk `k` pays its arrival at the partner and opens its departure. -/
theorem send_step (κ : GSem nD τ sig → ℕ) (c : Dev nD) (k : Fin 8) :
    iprop(records x κ ∗ owns (c : Thread nD τ) (slot mS (par k)) fullShare (sending x c k) ∗ Ticket c k ∗ owing (c : Thread nD τ) (due c k.val))
      ⊢ iprop((iprop(cred (tallyAt (sentCell c k) () N) ∗ owing (c : Thread nD τ) (due c (k.val + 1))) -∗ Run c (f ⟨⟩) Q)
        -∗ Run c (opSend c k >>= f) Q) := by
  unfold Ticket ownsAny owing
  iintro ⟨#HR, Hs, ⟨HtS, #HrS, HtG, #HrG, ⟨%Y, Hd⟩⟩, ⟨%W, HO⟩⟩ Hk
  ihave Hs := (show owns (c : Thread nD τ) (slot mS (par k)) fullShare (sending x c k) ⊢ (iprop(∃ g, ⌜(slot mS (par k)).view.read (Elt F) g = sending x c k⌝
    ∗ (slot mS (par k)).view.loc (c : Thread nD τ) ↦[(slot mS (par k)).view.set]{fullShare} g) : sProp 𝕄) from .rfl) $$ Hs
  icases Hs with ⟨%fs, %hfs, Hs⟩
  ihave Hd := (show owns (peer c : Thread nD τ) (rows mRecv k) fullShare Y ⊢ (iprop(∃ g, ⌜(rows mRecv k).view.read (Elt F) g = Y⌝
    ∗ (rows mRecv k).view.loc (peer c : Thread nD τ) ↦[(rows mRecv k).view.set]{fullShare} g) : sProp 𝕄) from .rfl) $$ Hd
  icases Hd with ⟨%fd, %hfd, Hd⟩
  iapply (Rounds.wp_send_pointsTo Variants.none ER (deal x) (c : Thread nD τ) none (c' := (peer c : Thread nD τ)) (src := slot mS (par k)) (dst := rows mRecv k)
      (sS := .dma (semS k)) (sem := .dma (semR k)) (q := fullShare) (fs := fs) (κ₁ := κ (sentCell c k)) (κ₂ := κ (gotCell (peer c) k))
      (r₁ := 0) (r₂ := 0) (d₁ := ()) (d₂ := ()) (fd := fd)
      (by rw [duties_sent]; exact Finset.mem_singleton_self _) (by rw [duties_got]; exact Finset.mem_singleton_self _)
      () () N rfl (amount_sent x c k ()) (amount_got x (peer c) k ()) (due c (k.val + 1)) (due_step c k) (W := W)
      (by rw [payload_sent]; unfold sentPay
          exact (owns_intro (c : Thread nD τ) (slot mS (par k)) fullShare fs).trans (ownsAny_intro _ _ _))
      (by rw [payload_got]; unfold gotPay; rw [peer_peer, ← hfs]
          refine (owns_intro (peer c : Thread nD τ) (rows mRecv k) fullShare _).trans ?_
          rw [View.read_write_univ])) $$ [Hs Hd HO HtS HtG]
  · isplitr; · iapply (inv_at x κ (sent_mem c k)); iexact HR
    isplitr; · iapply (inv_at x κ (got_mem (peer c) k)); iexact HR
    isplitl [Hs]; · iexact Hs
    isplitl [Hd]; · iexact Hd
    isplitl [HO]; · iexact HO
    isplitl [HtS]; · iexact HtS
    isplitr; · iexact HrS
    isplitl [HtG]; · iexact HtG
    iexact HrG
  iintro ⟨HcS, HO⟩
  iapply Hk
  isplitl [HcS]; · iexact HcS
  iexists W; iexact HO

/-- What is left of a chunk sent and not yet waited for. -/
def Away (c : Dev nD) (k : Fin 8) : sProp 𝕄 := iprop(cred (tallyAt (sentCell c k) () N) ∗ atPos ER (sentCell c k) 0 ∅ 0)

/-- The wait for a chunk's departure gives its slot back. -/
theorem sent_wait (κ : GSem nD τ sig → ℕ) (c : Dev nD) (k : Fin 8) (n : ℕ) :
    iprop(records x κ ∗ Away c k ∗ owing (c : Thread nD τ) (due c n) ∗ levAts L lv)
      ⊢ iprop((iprop(ownsAny (c : Thread nD τ) (slot mS (par k)) ∗ atPos ER (sentCell c k) (0 + 1) ∅ 0 ∗ owing (c : Thread nD τ) (due c n)) -∗ Run c (f ⟨⟩) Q)
        -∗ Run c (opSendWait k >>= f) Q) := by
  unfold Away owing
  iintro ⟨#HR, ⟨Hc, Ha⟩, ⟨%W, HO⟩, #Hlev⟩ Hk
  iapply (Rounds.wp_wait_rest_token Variants.none ER (deal x) (c : Thread nD τ) none (κ := κ (sentCell c k))
      (wpE_waitDma2_eq (src := rows mRecv k) (dst := slot mS (par k)) Variants.none (c : Thread nD τ) none Set.univ) (Set.mem_univ _) () (O := due c n) (W := W) (R := 0) (m := 0) (T := ∅)
      ((Nat.zero_add _).trans (expect_of x (duties_sent x c k) (amount_sent x c k ())).symm)) $$ [Hc HO Ha]
  · isplitr; · iapply (inv_at x κ (sent_mem c k)); iexact HR
    isplitl [Hc]; · iexact Hc
    isplitl [HO]; · iexact HO
    isplitr; · iapply (mayWait c _ n (by rw [lv_sent]; decide)); iexact Hlev
    iexact Ha
  iintro ⟨HO, Ha, -, Hpay⟩
  ihave Hs := (Entails.of_eq (paid_of x (duties_sent x c k) (payload_sent x c k ()))) $$ Hpay
  iapply Hk
  unfold sentPay
  isplitl [Hs]; · iexact Hs
  isplitl [Ha]; · iexact Ha
  iexists _; iexact HO

/-! ## A chunk received and the result's chunk made -/

/-- What is left of a chunk not yet received. -/
def Coming (c : Dev nD) (k : Fin 8) : sProp 𝕄 := iprop(cred (tallyAt (gotCell c k) () N) ∗ atPos ER (gotCell c k) 0 ∅ 0)

/-- Waiting for chunk `k`'s arrival gives its rows, at what the partner sent. -/
theorem got_wait (κ : GSem nD τ sig → ℕ) (c : Dev nD) (k : Fin 8) :
    iprop(records x κ ∗ Coming c k ∗ owing (c : Thread nD τ) 0)
      ⊢ iprop((iprop(owns (c : Thread nD τ) (rows mRecv k) fullShare (sending x (peer c) k) ∗ atPos ER (gotCell c k) (0 + 1) ∅ 0 ∗ owing (c : Thread nD τ) 0)
          -∗ Run c (f ⟨⟩) Q) -∗ Run c (opRecvWait k >>= f) Q) := by
  unfold Coming owing
  iintro ⟨#HR, ⟨Hc, Ha⟩, ⟨%W, HO⟩⟩ Hk
  iapply (Rounds.wp_wait_rest_token Variants.none ER (deal x) (c : Thread nD τ) none (κ := κ (gotCell c k))
      (wpE_waitDma2_eq (src := slot mS (par k)) (dst := rows mRecv k) Variants.none (c : Thread nD τ) none Set.univ) (Set.mem_univ _) () (O := 0) (W := W) (R := 0) (m := 0) (T := ∅)
      ((Nat.zero_add _).trans (expect_of x (duties_got x c k) (amount_got x c k ())).symm)) $$ [Hc HO Ha]
  · isplitr; · iapply (inv_at x κ (got_mem c k)); iexact HR
    isplitl [Hc]; · iexact Hc
    isplitl [HO]; · iexact HO
    isplitr; · rw [MayWait_zero]; iempintro
    iexact Ha
  iintro ⟨HO, Ha, -, Hpay⟩
  ihave Hs := (Entails.of_eq (paid_of x (duties_got x c k) (payload_got x c k ()))) $$ Hpay
  iapply Hk
  unfold gotPay
  isplitl [Hs]; · iexact Hs
  isplitl [Ha]; · iexact Ha
  iexists _; iexact HO

/-- The two operations that bring a received chunk into its slot. -/
theorem get_ops (k : Fin 8) : (opGet k >>= f) = (.op (.enqueueDma (rows mRecv k) (.here (slot mB (par k))) (.dma (semB (par k)))
      ((Memref.isWhole_whole main_v3_1).wordExact_slice rfl _ (words_row k))
      (((Memref.isWhole_whole cc0_scratch2).wordExact_slice rfl _ (words_slot (par k))).reshape _ _) ⟨Or.inl rfl, trivial⟩) fun _ =>
    .op (.waitDma2 (semB (par k)) (rows mRecv k) (slot mB (par k)) ((Memref.isWhole_whole main_v3_1).wordExact_slice rfl _ (words_row k))
      (((Memref.isWhole_whole cc0_scratch2).wordExact_slice rfl _ (words_slot (par k))).reshape _ _)) f : Ops F α) := rfl

/-- A received chunk is brought into its slot. -/
theorem get_step (c : Dev nD) (k : Fin 8) (Y : S512x4096.Idx → Elt F .bf16) :
    iprop(owns (c : Thread nD τ) (rows mRecv k) fullShare Y ∗ ownsAny (c : Thread nD τ) (slot mB (par k)) ∗ semVal ((c : Thread nD τ), .dma (semB (par k))) 0
        ∗ owing (c : Thread nD τ) 0)
      ⊢ iprop((iprop(owns (c : Thread nD τ) (rows mRecv k) fullShare Y ∗ owns (c : Thread nD τ) (slot mB (par k)) fullShare Y
            ∗ semVal ((c : Thread nD τ), .dma (semB (par k))) 0 ∗ owing (c : Thread nD τ) 0) -∗ Run c (f ⟨⟩) Q)
        -∗ Run c (opGet k >>= f) Q) := by
  rw [get_ops]
  iintro ⟨Hr, Hb, Hv, HO⟩ Hk
  iapply (step_copy Variants.none (c : Thread nD τ) none EC () chunk_numel) $$ [Hr Hb Hv]
  · isplitl [Hr]; · iexact Hr
    isplitl [Hb] <;> iassumption
  iintro HF
  iapply (step_wait Variants.none (c : Thread nD τ) none EC () (O := 0)) $$ [HF HO]
  · isplitl [HF]; · iexact HF
    isplitl [HO]; · iexact HO
    rw [MayWait_zero]; iempintro
  iintro ⟨⟨Hb, Hr⟩, Hv, HO⟩
  iapply Hk
  isplitl [Hr]; · iexact Hr
  isplitl [Hb]; · iexact Hb
  isplitl [Hv] <;> iassumption

/-- The weights loaded whole. -/
theorem weights_load (c : Dev nD) (q : PosShare TreeShare) {hl} {k : (S1x4096.Idx → Elt F .f32) → Ops F α} :
    (owns (c : Thread nD τ) mG q g : sProp 𝕄)
      ⊢ iprop((owns (c : Thread nD τ) mG q g -∗ Run c (k g) Q)
        -∗ Run c (.op (.load mG (Rect.unit (s := S1x4096) ![0, 0] S1x4096.size inb_S1x4096_S1x4096_0_0).toLoadRect hl) k) Q) := by
  rw [owns_whole]
  iintro H Hk
  iapply (wp_load_rect (U := UU) (Ix := Unit) (Name := ℕ) (Lvl := ℕ) Variants.none (c : Thread nD τ) none Set.univ (m := mG)
    (r := Rect.unit (s := S1x4096) ![0, 0] S1x4096.size inb_S1x4096_S1x4096_0_0) (S := Finset.univ) (f := g) (q := q) (Finset.subset_univ _)) $$ H
  iintro H
  rw [show (mG.access (Rect.unit (s := S1x4096) ![0, 0] S1x4096.size inb_S1x4096_S1x4096_0_0) : View sig .tc _ _ _).read (Elt F) g = g from
    Memref.read_access_unit_zero (Elt F) cc0_stg0_0 (by funext a; fin_cases a <;> rfl) _ g]
  iapply Hk
  iexact H

/-- The operations that make the result's chunk, one by one. -/
theorem compute_ops (p : Fin 2) : (opCompute p >>= f) = (.op (.load mA (slotRect p).toLoadRect (View.loadsAt_vmem h_S1x512x4096)) fun a =>
    .op (.load mB (slotRect p).toLoadRect (View.loadsAt_vmem h_S1x512x4096)) fun b =>
    .op (.load mG (Rect.unit (s := S1x4096) ![0, 0] S1x4096.size inb_S1x4096_S1x4096_0_0).toLoadRect (View.loadsAt_vmem h_S1x4096)) fun g =>
    .op (.load mO (slotRect p).toLoadRect (View.loadsAt_vmem h_S1x512x4096)) fun _ =>
    .op (.store mO (slotRect p) (outVec a b g) Finset.univ (View.stores_vmem_bits_univ h_S1x512x4096 rfl) (.inl rfl)) f : Ops F α) := rfl

/-- The result's chunk is made in its slot. -/
theorem compute_step (c : Dev nD) (p : Fin 2) (X : S512x4096.Idx → Elt F .f32) (Y : S512x4096.Idx → Elt F .bf16) :
    iprop(owns (c : Thread nD τ) (slot mA p) fullShare X ∗ owns (c : Thread nD τ) (slot mB p) fullShare Y ∗ owns (c : Thread nD τ) mG fullShare g
        ∗ ownsAny (c : Thread nD τ) (slot mO p))
      ⊢ iprop((iprop(owns (c : Thread nD τ) (slot mA p) fullShare X ∗ owns (c : Thread nD τ) (slot mB p) fullShare Y ∗ owns (c : Thread nD τ) mG fullShare g
            ∗ owns (c : Thread nD τ) (slot mO p) fullShare (flat sq (outVec (wide sq X) (wide sq Y) g))) -∗ Run c (f ⟨⟩) Q)
        -∗ Run c (opCompute p >>= f) Q) := by
  rw [compute_ops]
  iintro ⟨Ha, Hb, Hg, Ho⟩ Hk
  iapply (step_load Variants.none (c : Thread nD τ) none (h := sq)) $$ Ha
  iintro Ha
  iapply (step_load Variants.none (c : Thread nD τ) none (h := sq)) $$ Hb
  iintro Hb
  iapply (weights_load g c fullShare) $$ Hg
  iintro Hg
  unfold ownsAny
  icases Ho with ⟨%Z, Ho⟩
  iapply (step_load Variants.none (c : Thread nD τ) none (h := sq)) $$ Ho
  iintro Ho
  ihave Ho := (ownsAny_intro (c : Thread nD τ) (slot mO p) Z) $$ Ho
  iapply (step_store Variants.none (c : Thread nD τ) none (h := sq)) $$ Ho
  iintro Ho
  iapply Hk
  isplitl [Ha]; · iexact Ha
  isplitl [Hb]; · iexact Hb
  isplitl [Hg] <;> iassumption

/-- A chunk of the result under way out of its slot. -/
def OutF (c : Dev nD) (k : Fin 8) : sProp 𝕄 :=
  Transfers.Flight EC (c : Thread nD τ) (.dma (semO (par k))) () (rows mOut k).view.dmaCredit
    iprop(owns (c : Thread nD τ) (rows mOut k) fullShare (result x g c k) ∗ owns (c : Thread nD τ) (slot mO (par k)) fullShare (result x g c k))

/-- Starting the copy of chunk `k` of the result into its rows. -/
theorem out_start (c : Dev nD) (k : Fin 8) :
    iprop(owns (c : Thread nD τ) (slot mO (par k)) fullShare (result x g c k) ∗ ownsAny (c : Thread nD τ) (rows mOut k) ∗ semVal ((c : Thread nD τ), .dma (semO (par k))) 0)
      ⊢ iprop((OutF x g c k -∗ Run c (f ⟨⟩) Q) -∗ Run c (opOut k >>= f) Q) :=
  step_copy Variants.none (c : Thread nD τ) none EC () chunk_numel

/-- Waiting for that copy gives the result's rows at the chunk, and the slot again. -/
theorem out_wait (c : Dev nD) (k : Fin 8) :
    iprop(OutF x g c k ∗ owing (c : Thread nD τ) 0)
      ⊢ iprop((iprop(owns (c : Thread nD τ) (rows mOut k) fullShare (result x g c k) ∗ ownsAny (c : Thread nD τ) (slot mO (par k))
            ∗ semVal ((c : Thread nD τ), .dma (semO (par k))) 0 ∗ owing (c : Thread nD τ) 0) -∗ Run c (f ⟨⟩) Q)
        -∗ Run c (opOutWait k >>= f) Q) := by
  unfold OutF
  iintro ⟨HF, HO⟩ Hk
  iapply (step_wait Variants.none (c : Thread nD τ) none EC () (O := 0)) $$ [HF HO]
  · isplitl [HF]; · iexact HF
    isplitl [HO]; · iexact HO
    rw [MayWait_zero]; iempintro
  iintro ⟨⟨Hr, Ho⟩, Hv, HO⟩
  iapply Hk
  isplitl [Hr]; · iexact Hr
  isplitl [Ho]; · iapply (ownsAny_intro (c : Thread nD τ) (slot mO (par k)) _); iexact Ho
  isplitl [Hv] <;> iassumption

end Cert.KernelIdeal.Scatter

end
-- ==== Proof.Body.lean ====
module

public import proofs.«01_k».proof.Proof.Ops

@[expose] public section

noncomputable section

/-! The kernel's body on a device: the barrier, the chunks sent, the chunks of the result made. -/

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

variable (x : Dev nD → S8192x4096.Idx → Elt F .f32) (g : S1x4096.Idx → Elt F .f32)
variable {α : Type} {Q : α → sProp (MT nD τ sig Unit (Elt F) ℕ UU ℕ)} {f : PUnit → Ops F α}

/-- The share of the argument that serves the copies into slot `p`. -/
def half (p : Fin 2) : PosShare TreeShare := if p = 0 then fullShare.left else fullShare.right

/-- Slot `p` free for rows that leave. -/
def InFree (c : Dev nD) (p : Fin 2) : sProp 𝕄 :=
  iprop(owns (c : Thread nD τ) mX (half p) (x c) ∗ ownsAny (c : Thread nD τ) (slot mA p) ∗ semVal ((c : Thread nD τ), .dma (semIn p)) 0)
/-- Slot `p` free for rows that stay. -/
def KeepFree (c : Dev nD) (p : Fin 2) : sProp 𝕄 :=
  iprop(owns (c : Thread nD τ) mX (half p) (x c) ∗ ownsAny (c : Thread nD τ) (slot mA p) ∗ semVal ((c : Thread nD τ), .dma (semA p)) 0)
/-- Slot `p` of the received chunks free. -/
def GetFree (c : Dev nD) (p : Fin 2) : sProp 𝕄 :=
  iprop(ownsAny (c : Thread nD τ) (slot mB p) ∗ semVal ((c : Thread nD τ), .dma (semB p)) 0)
/-- Slot `p` of the result free. -/
def OutFree (c : Dev nD) (p : Fin 2) : sProp 𝕄 :=
  iprop(ownsAny (c : Thread nD τ) (slot mO p) ∗ semVal ((c : Thread nD τ), .dma (semO p)) 0)
/-- Everything needed to send chunk `k` and wait for it. -/
def Pass (c : Dev nD) (k : Fin 8) : sProp 𝕄 := iprop(Ticket c k ∗ atPos ER (sentCell c k) 0 ∅ 0)
/-- Chunk `k` has left and was waited for. -/
def Gone (c : Dev nD) (k : Fin 8) : sProp 𝕄 := atPos ER (sentCell c k) (0 + 1) ∅ 0
/-- Chunk `k` was received and its rows are free again. -/
def Got (c : Dev nD) (k : Fin 8) : sProp 𝕄 :=
  iprop(ownsAny (c : Thread nD τ) (rows mRecv k) ∗ atPos ER (gotCell c k) (0 + 1) ∅ 0)
/-- Chunk `k` of the result in place. -/
def Done (c : Dev nD) (k : Fin 8) : sProp 𝕄 := owns (c : Thread nD τ) (rows mOut k) fullShare (result x g c k)
/-- The rows of chunk `k` of the result before it is made. -/
def Blank (c : Dev nD) (k : Fin 8) : sProp 𝕄 := ownsAny (c : Thread nD τ) (rows mOut k)

/-- From a free slot, the copy of chunk `k`'s rows that leave starts. -/
theorem in_free (c : Dev nD) (k : Fin 8) {p : Fin 2} (hp : par k = p) :
    (InFree x c p) ⊢ iprop((InF x c k (half p) -∗ Run c (f ⟨⟩) Q) -∗ Run c (opIn c k >>= f) Q) := by
  subst hp; unfold InFree; exact in_start x c k (half (par k))
/-- From a free slot, the copy of chunk `k`'s rows that stay starts. -/
theorem keep_free (c : Dev nD) (k : Fin 8) {p : Fin 2} (hp : par k = p) :
    (KeepFree x c p) ⊢ iprop((KeepF x c k (half p) -∗ Run c (f ⟨⟩) Q) -∗ Run c (opKeep c k >>= f) Q) := by
  subst hp; unfold KeepFree; exact keep_start x c k (half (par k))

/-- A chunk narrowed and sent from a free slot. -/
theorem send1_step (κ : GSem nD τ sig → ℕ) (c : Dev nD) (k : Fin 8) {p : Fin 2} (hp : par k = p) {n n' : ℕ} (hn : k.val = n) (hn' : n' = n + 1) :
    iprop(records x κ ∗ levAts L lv ∗ InF x c k (half p) ∗ ownsAny (c : Thread nD τ) (slot mS p) ∗ Pass c k ∗ owing (c : Thread nD τ) (due c n))
      ⊢ iprop((iprop(InFree x c p ∗ Away c k ∗ owing (c : Thread nD τ) (due c n')) -∗ Run c (f ⟨⟩) Q) -∗ Run c (send1 c k >>= f) Q) := by
  subst hp hn hn'
  rw [show (send1 c k >>= f : Ops F α) = (opInWait c k >>= fun _ => opNarrow (par k) >>= fun _ => opSend c k >>= f) from rfl]
  unfold Pass
  iintro ⟨#HR, #Hlev, HF, Hs, ⟨HT, Hat⟩, HO⟩ Hk
  iapply (in_wait x c k (half (par k)) k.val) $$ [HF HO]
  · isplitl [HF]; · iexact HF
    isplitl [HO]; · iexact HO
    iexact Hlev
  iintro ⟨Hx, Ha, Hv, HO⟩
  iapply (narrow_step c (par k) (leaving x c k)) $$ [Ha Hs]
  · isplitl [Ha] <;> iassumption
  iintro ⟨Ha, Hs⟩
  iapply (send_step x κ c k) $$ [Hs HT HO]
  · isplitr; · iexact HR
    isplitl [Hs]; · unfold sending; iexact Hs
    isplitl [HT] <;> iassumption
  iintro ⟨Hc, HO⟩
  iapply Hk
  unfold InFree Away
  isplitl [Hx Ha Hv]
  · isplitl [Hx]; · iexact Hx
    isplitl [Ha]; · iapply (ownsAny_intro (c : Thread nD τ) (slot mA (par k)) _); iexact Ha
    iexact Hv
  isplitl [Hc Hat]
  · isplitl [Hc] <;> iassumption
  iexact HO

/-- A chunk narrowed and sent once chunk `j` has left its slot. -/
theorem send2_step (κ : GSem nD τ sig → ℕ) (c : Dev nD) (j k : Fin 8) {p : Fin 2} (hj : par j = p) (hp : par k = p) {n n' : ℕ} (hn : k.val = n) (hn' : n' = n + 1) :
    iprop(records x κ ∗ levAts L lv ∗ InF x c k (half p) ∗ Away c j ∗ Pass c k ∗ owing (c : Thread nD τ) (due c n))
      ⊢ iprop((iprop(InFree x c p ∗ Gone c j ∗ Away c k ∗ owing (c : Thread nD τ) (due c n')) -∗ Run c (f ⟨⟩) Q) -∗ Run c (send2 c j k >>= f) Q) := by
  subst hj hn hn'
  rw [show (send2 c j k >>= f : Ops F α) = (opInWait c k >>= fun _ => opSendWait j >>= fun _ => opNarrow (par k) >>= fun _ => opSend c k >>= f) from rfl]
  unfold Pass
  iintro ⟨#HR, #Hlev, HF, Hj, ⟨HT, Hat⟩, HO⟩ Hk
  rw [← hp]
  iapply (in_wait x c k (half (par k)) k.val) $$ [HF HO]
  · isplitl [HF]; · iexact HF
    isplitl [HO]; · iexact HO
    iexact Hlev
  iintro ⟨Hx, Ha, Hv, HO⟩
  iapply (sent_wait x κ c j k.val) $$ [Hj HO]
  · isplitr; · iexact HR
    isplitl [Hj]; · iexact Hj
    isplitl [HO]; · iexact HO
    iexact Hlev
  rw [← hp]
  iintro ⟨Hs, Hgone, HO⟩
  iapply (narrow_step c (par k) (leaving x c k)) $$ [Ha Hs]
  · isplitl [Ha] <;> iassumption
  iintro ⟨Ha, Hs⟩
  iapply (send_step x κ c k) $$ [Hs HT HO]
  · isplitr; · iexact HR
    isplitl [Hs]; · unfold sending; iexact Hs
    isplitl [HT] <;> iassumption
  iintro ⟨Hc, HO⟩
  iapply Hk
  unfold InFree Away Gone
  isplitl [Hx Ha Hv]
  · isplitl [Hx]; · iexact Hx
    isplitl [Ha]; · iapply (ownsAny_intro (c : Thread nD τ) (slot mA (par k)) _); iexact Ha
    iexact Hv
  isplitl [Hgone]; · iexact Hgone
  isplitl [Hc Hat]
  · isplitl [Hc] <;> iassumption
  iexact HO

/-- A chunk of the result made and its copy out begun, from a free slot. -/
theorem out1_step (κ : GSem nD τ sig → ℕ) (c : Dev nD) (k : Fin 8) {p : Fin 2} (hp : par k = p) :
    iprop(records x κ ∗ KeepF x c k (half p) ∗ Coming c k ∗ GetFree c p ∗ OutFree c p ∗ Blank c k ∗ owns (c : Thread nD τ) mG fullShare g ∗ owing (c : Thread nD τ) 0)
      ⊢ iprop((iprop(KeepFree x c p ∗ Got c k ∗ GetFree c p ∗ OutF x g c k ∗ owns (c : Thread nD τ) mG fullShare g ∗ owing (c : Thread nD τ) 0) -∗ Run c (f ⟨⟩) Q)
        -∗ Run c (out1 c k >>= f) Q) := by
  subst hp
  rw [show (out1 c k >>= f : Ops F α) = (opRecvWait k >>= fun _ => opGet k >>= fun _ => opKeepWait c k >>= fun _ => opCompute (par k) >>= fun _ => opOut k >>= f) from rfl]
  unfold GetFree OutFree Blank
  iintro ⟨#HR, HF, HC, ⟨Hb, Hvb⟩, ⟨Ho, Hvo⟩, Hout, Hg, HO⟩ Hk
  iapply (got_wait x κ c k) $$ [HC HO]
  · isplitr; · iexact HR
    isplitl [HC] <;> iassumption
  iintro ⟨Hr, Hat, HO⟩
  iapply (get_step c k _) $$ [Hr Hb Hvb HO]
  · isplitl [Hr]; · iexact Hr
    isplitl [Hb]; · iexact Hb
    isplitl [Hvb] <;> iassumption
  iintro ⟨Hr, Hb, Hvb, HO⟩
  iapply (keep_wait x c k (half (par k))) $$ [HF HO]
  · isplitl [HF] <;> iassumption
  iintro ⟨Hx, Ha, Hva, HO⟩
  iapply (compute_step g c (par k) _ _) $$ [Ha Hb Hg Ho]
  · isplitl [Ha]; · iexact Ha
    isplitl [Hb]; · iexact Hb
    isplitl [Hg] <;> iassumption
  iintro ⟨Ha, Hb, Hg, Ho⟩
  iapply (out_start x g c k) $$ [Ho Hout Hvo]
  · isplitl [Ho]; · unfold result; iexact Ho
    isplitl [Hout] <;> iassumption
  iintro HoF
  iapply Hk
  unfold KeepFree Got
  isplitl [Hx Ha Hva]
  · isplitl [Hx]; · iexact Hx
    isplitl [Ha]; · iapply (ownsAny_intro (c : Thread nD τ) (slot mA (par k)) _); iexact Ha
    iexact Hva
  isplitl [Hr Hat]
  · isplitl [Hr]; · iapply (ownsAny_intro (c : Thread nD τ) (rows mRecv k) _); iexact Hr
    iexact Hat
  isplitl [Hb Hvb]
  · isplitl [Hb]; · iapply (ownsAny_intro (c : Thread nD τ) (slot mB (par k)) _); iexact Hb
    iexact Hvb
  isplitl [HoF]; · iexact HoF
  isplitl [Hg] <;> iassumption

/-- A chunk of the result made and its copy out begun once chunk `j` is out of the slot. -/
theorem out2_step (κ : GSem nD τ sig → ℕ) (c : Dev nD) (j k : Fin 8) {p : Fin 2} (hj : par j = p) (hp : par k = p) :
    iprop(records x κ ∗ KeepF x c k (half p) ∗ Coming c k ∗ GetFree c p ∗ OutF x g c j ∗ Blank c k ∗ owns (c : Thread nD τ) mG fullShare g ∗ owing (c : Thread nD τ) 0)
      ⊢ iprop((iprop(KeepFree x c p ∗ Got c k ∗ GetFree c p ∗ Done x g c j ∗ OutF x g c k ∗ owns (c : Thread nD τ) mG fullShare g ∗ owing (c : Thread nD τ) 0) -∗ Run c (f ⟨⟩) Q)
        -∗ Run c (out2 c j k >>= f) Q) := by
  subst hj
  rw [show (out2 c j k >>= f : Ops F α) = (opRecvWait k >>= fun _ => opGet k >>= fun _ => opKeepWait c k >>= fun _ => opOutWait j >>= fun _ =>
    opCompute (par k) >>= fun _ => opOut k >>= f) from rfl]
  unfold GetFree Blank
  rw [← hp]
  iintro ⟨#HR, HF, HC, ⟨Hb, Hvb⟩, HoF, Hout, Hg, HO⟩ Hk
  iapply (got_wait x κ c k) $$ [HC HO]
  · isplitr; · iexact HR
    isplitl [HC] <;> iassumption
  iintro ⟨Hr, Hat, HO⟩
  iapply (get_step c k _) $$ [Hr Hb Hvb HO]
  · isplitl [Hr]; · iexact Hr
    isplitl [Hb]; · iexact Hb
    isplitl [Hvb] <;> iassumption
  iintro ⟨Hr, Hb, Hvb, HO⟩
  iapply (keep_wait x c k (half (par k))) $$ [HF HO]
  · isplitl [HF] <;> iassumption
  iintro ⟨Hx, Ha, Hva, HO⟩
  iapply (out_wait x g c j) $$ [HoF HO]
  · isplitl [HoF] <;> iassumption
  rw [← hp]
  iintro ⟨Hdone, Ho, Hvo, HO⟩
  iapply (compute_step g c (par k) _ _) $$ [Ha Hb Hg Ho]
  · isplitl [Ha]; · iexact Ha
    isplitl [Hb]; · iexact Hb
    isplitl [Hg] <;> iassumption
  iintro ⟨Ha, Hb, Hg, Ho⟩
  iapply (out_start x g c k) $$ [Ho Hout Hvo]
  · isplitl [Ho]; · unfold result; iexact Ho
    isplitl [Hout] <;> iassumption
  iintro HoF
  iapply Hk
  unfold KeepFree Got Done
  isplitl [Hx Ha Hva]
  · isplitl [Hx]; · iexact Hx
    isplitl [Ha]; · iapply (ownsAny_intro (c : Thread nD τ) (slot mA (par k)) _); iexact Ha
    iexact Hva
  isplitl [Hr Hat]
  · isplitl [Hr]; · iapply (ownsAny_intro (c : Thread nD τ) (rows mRecv k) _); iexact Hr
    iexact Hat
  isplitl [Hb Hvb]
  · isplitl [Hb]; · iapply (ownsAny_intro (c : Thread nD τ) (slot mB (par k)) _); iexact Hb
    iexact Hvb
  isplitl [Hdone]; · iexact Hdone
  isplitl [HoF]; · iexact HoF
  isplitl [Hg] <;> iassumption

/-- Eight things one by one. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  iterate 7 rw [bigSep_insert (by decide)]
  rw [bigSep_singleton]
  rfl

/-- The last transfers still under way when all chunks have been sent, the earlier ones gone. -/
def Sent (c : Dev nD) : sProp 𝕄 :=
  iprop(Gone c 0 ∗ Gone c 1 ∗ Gone c 2 ∗ Gone c 3 ∗ Gone c 4 ∗ Gone c 5 ∗ Away c 6 ∗ Away c 7)

/-- All chunks sent. -/
theorem sendAll_step (κ : GSem nD τ sig → ℕ) (c : Dev nD) :
    iprop(records x κ ∗ levAts L lv ∗ InFree x c 0 ∗ InFree x c 1 ∗ ownsAny (c : Thread nD τ) (slot mS 0) ∗ ownsAny (c : Thread nD τ) (slot mS 1)
        ∗ (bigSep Finset.univ fun k : Fin 8 => Pass c k) ∗ owing (c : Thread nD τ) (due c 0))
      ⊢ iprop((iprop(InFree x c 0 ∗ InFree x c 1 ∗ Sent c ∗ owing (c : Thread nD τ) 0) -∗ Run c (f ⟨⟩) Q)
        -∗ Run c (sendAll c >>= f) Q) := by
  rw [show (sendAll c >>= f : Ops F α) = (opIn c 0 >>= fun _ => opIn c 1 >>= fun _ => send1 c 0 >>= fun _ => opIn c 2 >>= fun _ => send1 c 1 >>= fun _ =>
    opIn c 3 >>= fun _ => send2 c 0 2 >>= fun _ => opIn c 4 >>= fun _ => send2 c 1 3 >>= fun _ => opIn c 5 >>= fun _ => send2 c 2 4 >>= fun _ =>
    opIn c 6 >>= fun _ => send2 c 3 5 >>= fun _ => opIn c 7 >>= fun _ => send2 c 4 6 >>= fun _ => send2 c 5 7 >>= f) from rfl]
  rw [bigSep_eight]
  iintro ⟨#HR, #Hlev, HA, HB, Hs0, Hs1, ⟨P0, P1, P2, P3, P4, P5, P6, P7⟩, HO⟩ Hk
  iapply (in_free x c 0 (p := 0) rfl) $$ HA; iintro HA
  iapply (in_free x c 1 (p := 1) rfl) $$ HB; iintro HB
  iapply (send1_step x κ c 0 (p := 0) rfl (n := 0) (n' := 1) rfl rfl) $$ [HA Hs0 P0 HO]
  · iframe # HA Hs0 P0 HO
  iintro ⟨HA, W0, HO⟩
  iapply (in_free x c 2 (p := 0) rfl) $$ HA; iintro HA
  iapply (send1_step x κ c 1 (p := 1) rfl (n := 1) (n' := 2) rfl rfl) $$ [HB Hs1 P1 HO]
  · iframe # HB Hs1 P1 HO
  iintro ⟨HB, W1, HO⟩
  iapply (in_free x c 3 (p := 1) rfl) $$ HB; iintro HB
  iapply (send2_step x κ c 0 2 (p := 0) rfl rfl (n := 2) (n' := 3) rfl rfl) $$ [HA W0 P2 HO]
  · iframe # HA W0 P2 HO
  iintro ⟨HA, G0, W2, HO⟩
  iapply (in_free x c 4 (p := 0) rfl) $$ HA; iintro HA
  iapply (send2_step x κ c 1 3 (p := 1) rfl rfl (n := 3) (n' := 4) rfl rfl) $$ [HB W1 P3 HO]
  · iframe # HB W1 P3 HO
  iintro ⟨HB, G1, W3, HO⟩
  iapply (in_free x c 5 (p := 1) rfl) $$ HB; iintro HB
  iapply (send2_step x κ c 2 4 (p := 0) rfl rfl (n := 4) (n' := 5) rfl rfl) $$ [HA W2 P4 HO]
  · iframe # HA W2 P4 HO
  iintro ⟨HA, G2, W4, HO⟩
  iapply (in_free x c 6 (p := 0) rfl) $$ HA; iintro HA
  iapply (send2_step x κ c 3 5 (p := 1) rfl rfl (n := 5) (n' := 6) rfl rfl) $$ [HB W3 P5 HO]
  · iframe # HB W3 P5 HO
  iintro ⟨HB, G3, W5, HO⟩
  iapply (in_free x c 7 (p := 1) rfl) $$ HB; iintro HB
  iapply (send2_step x κ c 4 6 (p := 0) rfl rfl (n := 6) (n' := 7) rfl rfl) $$ [HA W4 P6 HO]
  · iframe # HA W4 P6 HO
  iintro ⟨HA, G4, W6, HO⟩
  iapply (send2_step x κ c 5 7 (p := 1) rfl rfl (n := 7) (n' := 8) rfl rfl) $$ [HB W5 P7 HO]
  · iframe # HB W5 P7 HO
  rw [due_last]
  iintro ⟨HB, G5, W7, HO⟩
  iapply Hk
  unfold Sent
  iframe HA HB G0 G1 G2 G3 G4 G5 W6 W7 HO

/-- All chunks of the result made and in place. -/
theorem outAll_step (κ : GSem nD τ sig → ℕ) (c : Dev nD) :
    iprop(records x κ ∗ KeepFree x c 0 ∗ KeepFree x c 1 ∗ GetFree c 0 ∗ GetFree c 1 ∗ OutFree c 0 ∗ OutFree c 1
        ∗ (bigSep Finset.univ fun k : Fin 8 => Coming c k) ∗ (bigSep Finset.univ fun k : Fin 8 => Blank c k)
        ∗ owns (c : Thread nD τ) mG fullShare g ∗ owing (c : Thread nD τ) 0)
      ⊢ iprop((iprop(KeepFree x c 0 ∗ KeepFree x c 1 ∗ GetFree c 0 ∗ GetFree c 1 ∗ OutFree c 0 ∗ OutFree c 1
          ∗ (bigSep Finset.univ fun k : Fin 8 => Got c k) ∗ (bigSep Finset.univ fun k : Fin 8 => Done x g c k)
          ∗ owns (c : Thread nD τ) mG fullShare g ∗ owing (c : Thread nD τ) 0) -∗ Run c (f ⟨⟩) Q)
        -∗ Run c (outAll c >>= f) Q) := by
  rw [show (outAll c >>= f : Ops F α) = (opKeep c 0 >>= fun _ => opKeep c 1 >>= fun _ => out1 c 0 >>= fun _ => opKeep c 2 >>= fun _ => out1 c 1 >>= fun _ =>
    opKeep c 3 >>= fun _ => out2 c 0 2 >>= fun _ => opKeep c 4 >>= fun _ => out2 c 1 3 >>= fun _ => opKeep c 5 >>= fun _ => out2 c 2 4 >>= fun _ =>
    opKeep c 6 >>= fun _ => out2 c 3 5 >>= fun _ => opKeep c 7 >>= fun _ => out2 c 4 6 >>= fun _ => out2 c 5 7 >>= fun _ =>
    opOutWait 6 >>= fun _ => opOutWait 7 >>= f) from rfl]
  rw [bigSep_eight, bigSep_eight, bigSep_eight, bigSep_eight]
  iintro ⟨#HR, HA, HB, R0, R1, U0, U1, ⟨C0, C1, C2, C3, C4, C5, C6, C7⟩, ⟨B0, B1, B2, B3, B4, B5, B6, B7⟩, Hg, HO⟩ Hk
  iapply (keep_free x c 0 (p := 0) rfl) $$ HA; iintro HA
  iapply (keep_free x c 1 (p := 1) rfl) $$ HB; iintro HB
  iapply (out1_step x g κ c 0 (p := 0) rfl) $$ [HA C0 R0 U0 B0 Hg HO]
  · iframe # HA C0 R0 U0 B0 Hg HO
  iintro ⟨HA, D0, R0, F0, Hg, HO⟩
  iapply (keep_free x c 2 (p := 0) rfl) $$ HA; iintro HA
  iapply (out1_step x g κ c 1 (p := 1) rfl) $$ [HB C1 R1 U1 B1 Hg HO]
  · iframe # HB C1 R1 U1 B1 Hg HO
  iintro ⟨HB, D1, R1, F1, Hg, HO⟩
  iapply (keep_free x c 3 (p := 1) rfl) $$ HB; iintro HB
  iapply (out2_step x g κ c 0 2 (p := 0) rfl rfl) $$ [HA C2 R0 F0 B2 Hg HO]
  · iframe # HA C2 R0 F0 B2 Hg HO
  iintro ⟨HA, D2, R0, E0, F2, Hg, HO⟩
  iapply (keep_free x c 4 (p := 0) rfl) $$ HA; iintro HA
  iapply (out2_step x g κ c 1 3 (p := 1) rfl rfl) $$ [HB C3 R1 F1 B3 Hg HO]
  · iframe # HB C3 R1 F1 B3 Hg HO
  iintro ⟨HB, D3, R1, E1, F3, Hg, HO⟩
  iapply (keep_free x c 5 (p := 1) rfl) $$ HB; iintro HB
  iapply (out2_step x g κ c 2 4 (p := 0) rfl rfl) $$ [HA C4 R0 F2 B4 Hg HO]
  · iframe # HA C4 R0 F2 B4 Hg HO
  iintro ⟨HA, D4, R0, E2, F4, Hg, HO⟩
  iapply (keep_free x c 6 (p := 0) rfl) $$ HA; iintro HA
  iapply (out2_step x g κ c 3 5 (p := 1) rfl rfl) $$ [HB C5 R1 F3 B5 Hg HO]
  · iframe # HB C5 R1 F3 B5 Hg HO
  iintro ⟨HB, D5, R1, E3, F5, Hg, HO⟩
  iapply (keep_free x c 7 (p := 1) rfl) $$ HB; iintro HB
  iapply (out2_step x g κ c 4 6 (p := 0) rfl rfl) $$ [HA C6 R0 F4 B6 Hg HO]
  · iframe # HA C6 R0 F4 B6 Hg HO
  iintro ⟨HA, D6, R0, E4, F6, Hg, HO⟩
  iapply (out2_step x g κ c 5 7 (p := 1) rfl rfl) $$ [HB C7 R1 F5 B7 Hg HO]
  · iframe # HB C7 R1 F5 B7 Hg HO
  iintro ⟨HB, D7, R1, E5, F7, Hg, HO⟩
  iapply (out_wait x g c 6) $$ [F6 HO]
  · iframe F6 HO
  iintro ⟨E6, O0, V0, HO⟩
  iapply (out_wait x g c 7) $$ [F7 HO]
  · iframe F7 HO
  iintro ⟨E7, O1, V1, HO⟩
  iapply Hk
  unfold OutFree
  iframe HA HB R0 R1 Hg HO
  isplitl [O0 V0]
  · isplitl [O0]; · iexact O0
    iexact V0
  isplitl [O1 V1]
  · isplitl [O1]; · iexact O1
    iexact V1
  isplitl [D0 D1 D2 D3 D4 D5 D6 D7]
  · iframe D0 D1 D2 D3 D4 D5 D6 D7
  unfold Done
  iframe E0 E1 E2 E3 E4 E5 E6 E7

/-! ## The whole body -/

/-- What stays on the device: the argument, the slots and the semaphores of the local copies. -/
def Local (c : Dev nD) : sProp 𝕄 :=
  iprop(owns (c : Thread nD τ) mX fullShare (x c)
    ∗ (bigSep Finset.univ fun p : Fin 2 => ownsAny (c : Thread nD τ) (slot mA p)) ∗ (bigSep Finset.univ fun p : Fin 2 => ownsAny (c : Thread nD τ) (slot mS p))
    ∗ (bigSep Finset.univ fun p : Fin 2 => semVal ((c : Thread nD τ), .dma (semIn p)) 0) ∗ (bigSep Finset.univ fun p : Fin 2 => semVal ((c : Thread nD τ), .dma (semA p)) 0)
    ∗ (bigSep Finset.univ fun p : Fin 2 => GetFree c p) ∗ (bigSep Finset.univ fun p : Fin 2 => OutFree c p))

/-- What a device pays for and waits for of chunk `k`, but for where it lands. -/
def Right (c : Dev nD) (k : Fin 8) : sProp 𝕄 :=
  iprop(dutyTok ER (sentCell c k) 0 () ∗ reached ER (sentCell c k) 0 ∗ dutyTok ER (gotCell (peer c) k) 0 () ∗ atPos ER (sentCell c k) 0 ∅ 0)
/-- Where the partner's chunk `k` is to land. -/
def Berth (c : Dev nD) (k : Fin 8) : sProp 𝕄 := iprop(ownsAny (c : Thread nD τ) (rows mRecv k) ∗ reached ER (gotCell c k) 0)

/-- What the body starts from. -/
def Start (c : Dev nD) : sProp 𝕄 :=
  iprop(dutyTok ER (barCell (peer c)) 0 () ∗ cred (tallyAt (barCell c) () 1) ∗ atPos ER (barCell c) 0 ∅ 0
    ∗ (bigSep Finset.univ fun k : Fin 8 => Berth c k) ∗ (bigSep Finset.univ fun k : Fin 8 => Right c k)
    ∗ (bigSep Finset.univ fun k : Fin 8 => Coming c k) ∗ (bigSep Finset.univ fun k : Fin 8 => Blank c k)
    ∗ Local x c ∗ owns (c : Thread nD τ) mG fullShare g ∗ owing (c : Thread nD τ) (O₀ c))
/-- What it ends in. -/
def Finish (c : Dev nD) : sProp 𝕄 :=
  iprop(atPos ER (barCell c) (0 + 1) ∅ 0
    ∗ (bigSep Finset.univ fun k : Fin 8 => Gone c k) ∗ (bigSep Finset.univ fun k : Fin 8 => Got c k) ∗ (bigSep Finset.univ fun k : Fin 8 => Done x g c k)
    ∗ Local x c ∗ owns (c : Thread nD τ) mG fullShare g ∗ owing (c : Thread nD τ) 0)

/-- The rights given at launch and the partner's landing rows are, chunk by chunk, what each send needs. -/
theorem passes (c : Dev nD) :
    iprop((bigSep Finset.univ fun k : Fin 8 => Right c k) ∗ barPay c) ⊢ (bigSep Finset.univ fun k : Fin 8 => Pass c k : sProp 𝕄) := by
  unfold barPay
  rw [← bigSep_sep']
  have h (k : Fin 8) : iprop(Right c k ∗ (ownsAny (peer c : Thread nD τ) (rows mRecv k) ∗ reached ER (gotCell (peer c) k) 0)) ⊢ (Pass c k : sProp 𝕄) := by
    unfold Right Pass Ticket
    iintro ⟨⟨HtS, #HrS, HtG, Hat⟩, ⟨Hd, #HrG⟩⟩
    iframe # HtS HtG Hat Hd
  exact bigSep_mono fun k _ => h k

/-- A device's own landing rows, chunk by chunk, are what it pays to its partner's barrier. -/
theorem berths (c : Dev nD) : (bigSep Finset.univ fun k : Fin 8 => Berth c k : sProp 𝕄) = barPay (peer c) := by
  unfold barPay Berth; rw [peer_peer]

/-- The barrier: the partner's rows to land in come for one's own. -/
theorem barrier_step (κ : GSem nD τ sig → ℕ) (c : Dev nD) :
    iprop(records x κ ∗ levAts L lv ∗ dutyTok ER (barCell (peer c)) 0 () ∗ cred (tallyAt (barCell c) () 1) ∗ atPos ER (barCell c) 0 ∅ 0
        ∗ (bigSep Finset.univ fun k : Fin 8 => Berth c k) ∗ owing (c : Thread nD τ) (O₀ c))
      ⊢ iprop((iprop(atPos ER (barCell c) (0 + 1) ∅ 0 ∗ barPay c ∗ owing (c : Thread nD τ) (due c 0)) -∗ Run c (f ⟨⟩) Q)
        -∗ Run c (semSignalWord (peer c) semBar 1#32 >>= fun _ => semWaitWord semBar 1#32 >>= f) Q) := by
  rw [show (semSignalWord (peer c) semBar 1#32 >>= fun _ => semWaitWord semBar 1#32 >>= f : Ops F α)
    = .op (.semSignal (peer c : Thread nD τ) semBar (1 : ℕ)) fun _ => .op (.semWait semBar (1 : ℕ)) f from rfl, berths]
  unfold owing
  iintro ⟨#HR, #Hlev, Ht, Hc, Ha, Hb, ⟨%W, HO⟩⟩ Hk
  iapply (Rounds.wp_signal Variants.none ER (deal x) (c : Thread nD τ) none (dst := (peer c : Thread nD τ)) (sem := semBar) (r := 0) (d := ()) (κ := κ (barCell (peer c)))
      (by rw [duties_bar]; exact Finset.mem_singleton_self _) (amount_bar x (peer c) ()) () (due c 0) rfl) $$ [HO Ht Hb]
  · isplitr; · iapply (inv_at x κ (bar_mem (peer c))); iexact HR
    isplitl [HO]; · iexact HO
    isplitl [Ht]; · iexact Ht
    isplitl [Hb]; · rw [payload_bar]; iexact Hb
    iapply (reached_at x κ (peer c)); iexact HR
  iintro HO
  iapply (Rounds.wp_wait_rest_token Variants.none ER (deal x) (c : Thread nD τ) none (κ := κ (barCell c))
      (wpE_semWait_eq Variants.none (c : Thread nD τ) none Set.univ) (Set.mem_univ _) () (O := due c 0) (W := W) (R := 0) (m := 0) (T := ∅)
      ((Nat.zero_add 1).trans (expect_of x (duties_bar x c) (amount_bar x c ())).symm)) $$ [Hc HO Ha]
  · isplitr; · iapply (inv_at x κ (bar_mem c)); iexact HR
    isplitl [Hc]; · iexact Hc
    isplitl [HO]; · iexact HO
    isplitr; · iapply (mayWait c _ 0 (by rw [lv_bar])); iexact Hlev
    iexact Ha
  iintro ⟨HO, Ha, -, Hpay⟩
  ihave Hp := (Entails.of_eq (paid_of x (duties_bar x c) (payload_bar x c ()))) $$ Hpay
  iapply Hk
  isplitl [Ha]; · iexact Ha
  isplitl [Hp]; · iexact Hp
  iexists _; iexact HO

/-- Something of each of two things is the one's and the other's. -/
theorem bigSep_two (Φ : Fin 2 → sProp 𝕄) : bigSep Finset.univ Φ = iprop(Φ 0 ∗ Φ 1) := BI.bigSep_fin_two Φ

/-- The body, from its start to its end. -/
theorem body_step (κ : GSem nD τ sig → ℕ) (c : Dev nD) :
    iprop(records x κ ∗ levAts L lv ∗ Start x g c) ⊢ iprop((Finish x g c -∗ Run c (f ⟨⟩) Q) -∗ Run c (bodyOn c >>= f) Q) := by
  rw [show (bodyOn c >>= f : Ops F α) = (semSignalWord (peer c) semBar 1#32 >>= fun _ => semWaitWord semBar 1#32 >>= fun _ => sendAll c >>= fun _ => outAll c >>= fun _ =>
    opSendWait 6 >>= fun _ => opSendWait 7 >>= f) from rfl]
  unfold Start Local
  simp only [bigSep_two]
  rw [BI.equiv_iff.mp ⟨(owns_halves (c : Thread nD τ) mX fullShare (x c)).1, (owns_halves (c : Thread nD τ) mX fullShare (x c)).2⟩]
  iintro ⟨#HR, #Hlev, Ht, Hcb, Hab, Hberth, Hright, Hcome, Hblank, ⟨⟨Hx0, Hx1⟩, ⟨A0, A1⟩, ⟨S0, S1⟩, ⟨I0, I1⟩, ⟨K0, K1⟩, ⟨G0, G1⟩, ⟨O0, O1⟩⟩, Hg, HO⟩ Hk
  iapply (barrier_step x κ c) $$ [Ht Hcb Hab Hberth HO]
  · iframe # Ht Hcb Hab Hberth HO
  iintro ⟨Hab, Hpay, HO⟩
  ihave Hpass := (passes c) $$ [Hright Hpay]
  · isplitl [Hright] <;> iassumption
  iapply (sendAll_step x κ c) $$ [Hx0 Hx1 A0 A1 S0 S1 I0 I1 Hpass HO]
  · unfold InFree half
    iframe # S0 S1 Hpass HO A0 A1 I0 I1
    isplitl [Hx0]; · iexact Hx0
    iexact Hx1
  unfold Sent
  iintro ⟨HA, HB, ⟨D0, D1, D2, D3, D4, D5, W6, W7⟩, HO⟩
  unfold InFree
  icases HA with ⟨Hx0, A0, I0⟩
  icases HB with ⟨Hx1, A1, I1⟩
  iapply (outAll_step x g κ c) $$ [Hx0 Hx1 A0 A1 K0 K1 G0 G1 O0 O1 Hcome Hblank Hg HO]
  · unfold KeepFree
    iframe # Hx0 Hx1 A0 A1 K0 K1 G0 G1 O0 O1 Hcome Hblank Hg HO
  unfold KeepFree
  iintro ⟨⟨Hx0, A0, K0⟩, ⟨Hx1, A1, K1⟩, G0, G1, O0, O1, Hgot, Hdone, Hg, HO⟩
  rw [← due_last c]
  iapply (sent_wait x κ c 6 8) $$ [W6 HO]
  · iframe # W6 HO
  iintro ⟨S0, D6, HO⟩
  iapply (sent_wait x κ c 7 8) $$ [W7 HO]
  · iframe # W7 HO
  iintro ⟨S1, D7, HO⟩
  iapply Hk
  unfold Finish Local
  simp only [bigSep_two]
  rw [BI.equiv_iff.mp ⟨(owns_halves (c : Thread nD τ) mX fullShare (x c)).1, (owns_halves (c : Thread nD τ) mX fullShare (x c)).2⟩, due_last]
  rw [bigSep_eight (fun k => Gone c k)]
  iframe Hab Hgot Hdone Hg HO D0 D1 D2 D3 D4 D5 I0 I1 K0 K1 G0 G1 O0 O1 A0 A1
  isplitl [D6 D7]
  · unfold Gone
    isplitl [D6] <;> iassumption
  unfold half
  isplitl [Hx0 Hx1]
  · isplitl [Hx0]; · iexact Hx0
    iexact Hx1
  isplitl [S0]; · iexact S0
  iexact S1

end Cert.KernelIdeal.Scatter

end
-- ==== Proof.Pieces.lean ====
module

public import proofs.«01_k».proof.Proof.Body

@[expose] public section

noncomputable section

/-! Buffers cut into the windows the body works on, and put together again. -/

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

/-! ## Any buffer -/

section Cut

variable (c : Thread nD τ) {sp : Space} {s : Shape} {e : EltTy} (m : Memref sig c.2.kind sp s e)

/-- A window seen as a matrix is the same part of its buffer. -/
theorem any_squeeze {t : Shape} (h : s.Squeezes t) : (ownsAny c (m.squeeze t h) : sProp 𝕄) = ownsAny c m := by
  have h₁ : (ownsAny c (m.squeeze t h) : sProp 𝕄) ⊢ ownsAny c m := by
    unfold ownsAny
    iintro ⟨%X, H⟩
    ihave H := (show owns c (m.squeeze t h) fullShare X ⊢ iprop(∃ g, ⌜(m.view.reshape t h.numel_eq).read (Elt F) g = X⌝
      ∗ m.view.loc c ↦[(m.view.reshape t h.numel_eq).set]{fullShare} g) from .rfl) $$ H
    icases H with ⟨%f, -, H⟩
    rw [View.set_reshape]
    iexists _
    iapply (owns_intro c m fullShare f); iexact H
  have h₂ : (ownsAny c m : sProp 𝕄) ⊢ ownsAny c (m.squeeze t h) := by
    unfold ownsAny
    iintro ⟨%X, H⟩
    ihave H := (show owns c m fullShare X ⊢ iprop(∃ g, ⌜m.view.read (Elt F) g = X⌝ ∗ m.view.loc c ↦[m.view.set]{fullShare} g) from .rfl) $$ H
    icases H with ⟨%f, -, H⟩
    iexists _
    iapply (owns_intro c (m.squeeze t h) fullShare f)
    rw [show (m.squeeze t h).view.set = m.view.set from View.set_reshape ..]
    iexact H
  exact BI.equiv_iff.mp ⟨h₁, h₂⟩

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

include hd in
/-- Windows that cover a buffer without overlap, put together at their contents. -/
theorem owns_glued [∀ e, Nonempty (Elt F e)] (Z : (t : T) → (r t).shape.Idx → Elt F e) :
    bigSep Finset.univ (fun t => owns c (m.slice (r t) (hr t)) fullShare (Z t)) ⊢ (owns c m fullShare (Rect.glue r hcov Z) : sProp 𝕄) := by
  have h (t : T) : (fun j => Rect.glue r hcov Z ((r t).emb j)) = Z t := funext fun j => Rect.glue_emb r hcov hd Z t j
  have h' := owns_of_rects (Ix := Unit) (Name := ℕ) (U := UU) (Lvl := ℕ) c m fullShare r hr hd hcov (Rect.glue r hcov Z)
  simp only [h] at h'
  exact h'

include hd hcov in
/-- A buffer at any contents is its windows at any contents. -/
theorem any_pieces [∀ e, Nonempty (Elt F e)] :
    (ownsAny c m : sProp 𝕄) = bigSep Finset.univ fun t => ownsAny c (m.slice (r t) (hr t)) := by
  have h₁ : (ownsAny c m : sProp 𝕄) ⊢ bigSep Finset.univ fun t => ownsAny c (m.slice (r t) (hr t)) := by
    have h (X : s.Idx → Elt F e) : (owns c m fullShare X : sProp 𝕄) ⊢ bigSep Finset.univ fun t => ownsAny c (m.slice (r t) (hr t)) :=
      (owns_rects c m fullShare r hr hd hcov X).trans (bigSep_mono fun t _ => ownsAny_intro c (m.slice (r t) (hr t)) _)
    unfold ownsAny at h ⊢
    iintro ⟨%X, H⟩
    iapply (h X); iexact H
  have h₂ : (bigSep Finset.univ fun t => ownsAny c (m.slice (r t) (hr t)) : sProp 𝕄) ⊢ ownsAny c m := by
    have h : iprop(∃ Z : (t : T) → (r t).shape.Idx → Elt F e, bigSep Finset.univ fun t => (owns c (m.slice (r t) (hr t)) fullShare (Z t) : sProp 𝕄)) ⊢ ownsAny c m := by
      iintro ⟨%Z, H⟩
      iapply (ownsAny_intro c m (Rect.glue r hcov Z))
      iapply (owns_glued c m r hr hd hcov Z); iexact H
    refine (BI.bigSep_exists_pi Finset.univ (fun t (X : (r t).shape.Idx → Elt F e) => (owns c (m.slice (r t) (hr t)) fullShare X : sProp 𝕄))).trans h
  exact BI.equiv_iff.mp ⟨h₁, h₂⟩

end Cut

/-! ## The rectangles -/

/-- An index is in chunk `k` when its row is. -/
theorem row_axis (k : Fin 8) (i : S4096x4096.Idx) : i ∈ (rowRect k).set ↔ 512 * k.val ≤ (i 0).val ∧ (i 0).val < 512 * k.val + 512 := by
  rw [Rect.mem_set_unit]
  have h1 : (i 1).val < 4096 := (i 1).isLt
  refine ⟨fun h => h 0, fun h a => ?_⟩
  match a with
  | ⟨0, _⟩ => exact h
  | ⟨1, _⟩ => exact ⟨Nat.zero_le _, by show (i 1).val < 0 + 4096; omega⟩
/-- Chunks are disjoint. -/
theorem rows_disjoint (k j : Fin 8) (h : k ≠ j) : Disjoint (rowRect k).set (rowRect j).set := by
  rw [Finset.disjoint_left]
  intro i hi hj
  rw [row_axis] at hi hj
  exact h (Fin.ext (by omega))
/-- Together they are all the rows. -/
theorem rows_cover : (Finset.univ : Finset (Fin 8)).biUnion (fun k => (rowRect k).set) = Finset.univ := by
  ext i
  have h : (i 0).val < 4096 := (i 0).isLt
  simp only [Finset.mem_biUnion, Finset.mem_univ, true_and, iff_true]
  exact ⟨⟨(i 0).val / 512, by omega⟩, (row_axis _ i).mpr ⟨by show 512 * ((i 0).val / 512) ≤ _; omega, by show _ < 512 * ((i 0).val / 512) + 512; omega⟩⟩

/-- An index is in a slot when its first coordinate names it. -/
theorem slot_axis (p : Fin 2) (i : S2x512x4096.Idx) : i ∈ (slotRect p).set ↔ (i 0).val = p.val := by
  rw [Rect.mem_set_unit]
  have h1 : (i 1).val < 512 := (i 1).isLt
  have h2 : (i 2).val < 4096 := (i 2).isLt
  refine ⟨fun h => ?_, fun h a => ?_⟩
  · have := h 0
    have e1 : p.val ≤ (i 0).val := this.1
    have e2 : (i 0).val < p.val + 1 := this.2
    omega
  · match a with
    | ⟨0, _⟩ => exact ⟨by show p.val ≤ (i 0).val; omega, by show (i 0).val < p.val + 1; omega⟩
    | ⟨1, _⟩ => exact ⟨Nat.zero_le _, by show (i 1).val < 0 + 512; omega⟩
    | ⟨2, _⟩ => exact ⟨Nat.zero_le _, by show (i 2).val < 0 + 4096; omega⟩
/-- The slots are disjoint. -/
theorem slots_disjoint (p j : Fin 2) (h : p ≠ j) : Disjoint (slotRect p).set (slotRect j).set := by
  rw [Finset.disjoint_left]
  intro i hi hj
  rw [slot_axis] at hi hj
  exact h (Fin.ext (by omega))
/-- Together they are the buffer. -/
theorem slots_cover : (Finset.univ : Finset (Fin 2)).biUnion (fun p => (slotRect p).set) = Finset.univ := by
  ext i
  have h : (i 0).val < 2 := (i 0).isLt
  simp only [Finset.mem_biUnion, Finset.mem_univ, true_and, iff_true]
  exact ⟨⟨(i 0).val, h⟩, (slot_axis _ i).mpr rfl⟩

/-! ## The kernel's buffers -/

variable [∀ e, Nonempty (Elt F e)]

/-- A buffer of two slots is its slots. -/
theorem any_slots {e : EltTy} (c : Dev nD) (M : Memref sig .tc .vmem S2x512x4096 e) :
    (ownsAny (c : Thread nD τ) M : sProp 𝕄) = bigSep Finset.univ fun p : Fin 2 => ownsAny (c : Thread nD τ) (slot M p) := by
  rw [any_pieces (c : Thread nD τ) M slotRect (fun _ _ => rfl) slots_disjoint slots_cover]
  exact bigSep_congr fun p _ => (any_squeeze (c : Thread nD τ) (M.slice (slotRect p) (fun _ => rfl)) squeezes_S1x512x4096_S512x4096).symm
/-- A buffer of eight chunks of rows is its chunks. -/
theorem any_rows {e : EltTy} (c : Dev nD) (M : Memref sig .tc .hbm S4096x4096 e) :
    (ownsAny (c : Thread nD τ) M : sProp 𝕄) = bigSep Finset.univ fun k : Fin 8 => ownsAny (c : Thread nD τ) (rows M k) :=
  any_pieces (c : Thread nD τ) M rowRect (fun _ _ => rfl) rows_disjoint rows_cover

/-- The result on device `c`: its eight chunks of rows put together. -/
def outcome (x : Dev nD → S8192x4096.Idx → Elt F .f32) (g : S1x4096.Idx → Elt F .f32) (c : Dev nD) : S4096x4096.Idx → Elt F .f32 :=
  Rect.glue rowRect rows_cover fun k => result x g c k

/-- A chunk of the whole result is the result's chunk. -/
theorem outcome_rows (x : Dev nD → S8192x4096.Idx → Elt F .f32) (g : S1x4096.Idx → Elt F .f32) (c : Dev nD) (k : Fin 8) (j : S512x4096.Idx) :
    outcome x g c ((rowRect k).emb j) = result x g c k j := Rect.glue_emb rowRect rows_cover rows_disjoint _ k j

/-- The eight chunks of the result, held each at its value, are the whole at its value. -/
theorem done_all (x : Dev nD → S8192x4096.Idx → Elt F .f32) (g : S1x4096.Idx → Elt F .f32) (c : Dev nD) :
    (bigSep Finset.univ fun k : Fin 8 => Done x g c k : sProp 𝕄) ⊢ owns (c : Thread nD τ) mOut fullShare (outcome x g c) :=
  owns_glued (c : Thread nD τ) mOut rowRect (fun _ _ => rfl) rows_disjoint rows_cover _

/-- A whole buffer owned at some contents. -/
theorem any_whole (c : Dev nD) (b : Ref sig .tc) :
    (ownsAny (c : Thread nD τ) (Memref.whole b) : sProp 𝕄) = iprop(∃ f : Buf (Elt F) ((c : Thread nD τ).loc b), ((c : Thread nD τ).loc b) ↦{fullShare} f) := by
  unfold ownsAny
  refine congrArg _ (funext fun X => ?_)
  exact owns_whole (c : Thread nD τ) b fullShare X

end Cert.KernelIdeal.Scatter

end
-- ==== Proof.Ends.lean ====
module

public import proofs.«01_k».proof.Proof.Pieces

@[expose] public section

noncomputable section

/-! From whole buffers and counters at zero to what the body starts from, and from what it ends in back to them. -/

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Steps

variable {F : FTy → Type} [FloatOps F]

local notation "𝕄" => MT nD τ sig Unit (Elt F) ℕ UU ℕ

/-! ## The kernel's own semaphores -/

/-- The semaphores of the copies within a device. -/
def localSem : Fin 4 × Fin 2 → SemLoc sig
  | (⟨0, _⟩, p) => .dma (semIn p)
  | (⟨1, _⟩, p) => .dma (semA p)
  | (⟨2, _⟩, p) => .dma (semB p)
  | (⟨_ + 3, _⟩, p) => .dma (semO p)
/-- All semaphores of the kernel that are its own. -/
def osem : (Fin 4 × Fin 2) ⊕ (Fin 2 × Fin 8) → SemLoc sig
  | .inl q => localSem q
  | .inr q => chunkSem q

/-- The kernel's own semaphores are distinct, and none is the pipeline's. -/
theorem osem_facts : Pipeline.OwnSemFacts spec0 osem := by decide +kernel

/-- The counters of the copies within device `c`, at zero. -/
def Idle (c : Dev nD) : sProp 𝕄 :=
  iprop((bigSep Finset.univ fun p : Fin 2 => semVal ((c : Thread nD τ), .dma (semIn p)) 0) ∗ (bigSep Finset.univ fun p : Fin 2 => semVal ((c : Thread nD τ), .dma (semA p)) 0)
    ∗ (bigSep Finset.univ fun p : Fin 2 => semVal ((c : Thread nD τ), .dma (semB p)) 0) ∗ (bigSep Finset.univ fun p : Fin 2 => semVal ((c : Thread nD τ), .dma (semO p)) 0))

/-- Something of each of four things is the four one beside another. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The kernel's own semaphores at zero, kind by kind. -/
theorem ownSems_eq (c : Dev nD) : (Pipeline.ownSems0 osem c : sProp 𝕄)
    = iprop(Idle c ∗ ((bigSep Finset.univ fun k : Fin 8 => semVal (sentCell c k) 0) ∗ (bigSep Finset.univ fun k : Fin 8 => semVal (gotCell c k) 0))) := by
  unfold Pipeline.ownSems0
  rw [bigSep_univ_sum, bigSep_univ_prod, bigSep_univ_prod, bigSep_four,
    bigSep_two fun a : Fin 2 => bigSep Finset.univ fun b : Fin 8 => (semVal ((c : Thread nD τ), osem (Sum.inr (a, b))) 0 : sProp 𝕄)]
  rfl

/-! ## Cells opened and closed -/

variable (x : Dev nD → S8192x4096.Idx → Elt F .f32) (g : S1x4096.Idx → Elt F .f32)

/-- Eight cells whose counters are at zero are opened. -/
theorem open_all (κ : GSem nD τ sig → ℕ) (cell : Fin 8 → GSem nD τ sig) (h : ∀ k, cell k ∈ (barCells ∪ chunkCells : Finset (GSem nD τ sig))) :
    iprop(records x κ ∗ ((bigSep Finset.univ fun k => openTok ER (cell k)) ∗ (bigSep Finset.univ fun k => semVal (cell k) 0)))
      ⊢ (|={Set.univ}=> iprop((bigSep Finset.univ fun k => atPos ER (cell k) 0 ∅ 0) ∗ (bigSep Finset.univ fun k => reached ER (cell k) 0)) : sProp 𝕄) := by
  have h1 (k : Fin 8) : iprop(records x κ ∗ (openTok ER (cell k) ∗ semVal (cell k) 0))
      ⊢ (|={Set.univ}=> iprop(atPos ER (cell k) 0 ∅ 0 ∗ reached ER (cell k) 0) : sProp 𝕄) := by
    iintro ⟨#HR, Ho, Hv⟩
    iapply (Rounds.cell_open ER (deal x) (g := cell k) (Set.mem_univ (κ (cell k))))
    isplitr; · iapply (inv_at x κ (h k)); iexact HR
    isplitl [Ho] <;> iassumption
  rw [← bigSep_sep', ← bigSep_sep']
  exact (bigSep_with_persistent fun k _ => h1 k).trans (bigSep_fupd _ _)

/-- Eight cells whose one payment has been taken are closed at zero. -/
theorem close_all (κ : GSem nD τ sig → ℕ) (cell : Fin 8 → GSem nD τ sig) (h : ∀ k, cell k ∈ (barCells ∪ chunkCells : Finset (GSem nD τ sig))) :
    iprop(records x κ ∗ (bigSep Finset.univ fun k => atPos ER (cell k) (0 + 1) ∅ 0))
      ⊢ (|={Set.univ}=> bigSep Finset.univ fun k => semVal (cell k) 0 : sProp 𝕄) := by
  have h1 (k : Fin 8) : iprop(records x κ ∗ atPos ER (cell k) (0 + 1) ∅ 0) ⊢ (|={Set.univ}=> semVal (cell k) 0 : sProp 𝕄) := by
    iintro ⟨#HR, Ha⟩
    iapply (Rounds.cell_close ER (deal x) (g := cell k) (Set.mem_univ (κ (cell k))) id (duties_later x _))
    isplitr; · iapply (inv_at x κ (h k)); iexact HR
    iexact Ha
  exact (bigSep_with_persistent fun k _ => h1 k).trans (bigSep_fupd _ _)

/-- The barrier's cell closed at zero. -/
theorem close_bar (κ : GSem nD τ sig → ℕ) (c : Dev nD) :
    iprop(records x κ ∗ atPos ER (barCell c) (0 + 1) ∅ 0) ⊢ (|={Set.univ}=> semVal (barCell c) 0 : sProp 𝕄) := by
  iintro ⟨#HR, Ha⟩
  iapply (Rounds.cell_close ER (deal x) (g := barCell c) (Set.mem_univ (κ (barCell c))) id (duties_later x _))
  isplitr; · iapply (inv_at x κ (bar_mem c)); iexact HR
  iexact Ha

/-! ## Before the body -/

/-- What device `c` holds of the agreement from the launch on: its place at the barrier, the rights to open its chunks'
cells, and the rights to pay. -/
def Share (c : Dev nD) : sProp 𝕄 :=
  iprop(atPos ER (barCell c) 0 ∅ 0
    ∗ ((bigSep Finset.univ fun k : Fin 8 => openTok ER (sentCell c k)) ∗ (bigSep Finset.univ fun k : Fin 8 => openTok ER (gotCell c k)))
    ∗ (dutyTok ER (barCell (peer c)) 0 () ∗ ((bigSep Finset.univ fun k : Fin 8 => dutyTok ER (sentCell c k) 0 ()) ∗ (bigSep Finset.univ fun k : Fin 8 => dutyTok ER (gotCell (peer c) k) 0 ()))))
/-- What it may claim of its partner. -/
def Claims (c : Dev nD) : sProp 𝕄 :=
  iprop(cred (tallyAt (barCell c) () 1) ∗ (bigSep Finset.univ fun k : Fin 8 => cred (tallyAt (gotCell c k) () N)))
/-- Both, and where the chunks are to land. -/
def Ready (c : Dev nD) : sProp 𝕄 := iprop((∃ κ, records x κ ∗ Share c) ∗ Claims c ∗ ownsAny (c : Thread nD τ) mRecv)
/-- The same once the cells are open. -/
def Opened (κ : GSem nD τ sig → ℕ) (c : Dev nD) : sProp 𝕄 :=
  iprop(dutyTok ER (barCell (peer c)) 0 () ∗ atPos ER (barCell c) 0 ∅ 0
    ∗ (bigSep Finset.univ fun k : Fin 8 => reached ER (gotCell c k) 0) ∗ (bigSep Finset.univ fun k : Fin 8 => Right c k)
    ∗ (bigSep Finset.univ fun k : Fin 8 => atPos ER (gotCell c k) 0 ∅ 0) ∗ Claims c ∗ Idle c ∗ ownsAny (c : Thread nD τ) mRecv)
def Entry (c : Dev nD) : sProp 𝕄 := iprop(∃ κ, records x κ ∗ levAts L lv ∗ Opened κ c)

/-- What a core is ready with, and its own semaphores at zero, give what the body is entered with. -/
theorem entry_intro (c : Dev nD) : iprop(Ready x c ∗ Pipeline.ownSems0 osem c ∗ levAts L lv) ⊢ (|={Set.univ}=> Entry x c : sProp 𝕄) := by
  rw [ownSems_eq]
  unfold Ready Share Entry Opened Right
  simp only [bigSep_sep']
  iintro ⟨⟨⟨%κ, #HR, Hab, ⟨HoS, HoG⟩, Htb, HtS, HtG⟩, Hcl, Hrecv⟩, ⟨Hidle, HvS, HvG⟩, #Hlev⟩
  imod (open_all x κ (fun k => sentCell c k) (sent_mem c)) $$ [HoS HvS] with ⟨HaS, HrS⟩
  · isplitr; · iexact HR
    isplitl [HoS] <;> iassumption
  imod (open_all x κ (fun k => gotCell c k) (got_mem c)) $$ [HoG HvG] with ⟨HaG, HrG⟩
  · isplitr; · iexact HR
    isplitl [HoG] <;> iassumption
  imodintro
  iexists κ
  isplitr; · iexact HR
  isplitr; · iexact Hlev
  iframe Htb Hab HrG HtS HrS HtG HaS HaG Hcl Hidle Hrecv

/-- The buffers of the kernel's own, at any contents. -/
def Scratch (c : Dev nD) : sProp 𝕄 :=
  iprop(ownsAny (c : Thread nD τ) mA ∗ ownsAny (c : Thread nD τ) mS ∗ ownsAny (c : Thread nD τ) mB ∗ ownsAny (c : Thread nD τ) mO)

/-- The region's scratch memory, buffer by buffer. -/
theorem scratch_eq (c : Dev nD) : (Pipeline.scopedRest spec0 c : sProp 𝕄) = Scratch c := by
  rw [scopedRest0_eq]; unfold Scratch
  rw [any_whole, any_whole, any_whole, any_whole]

variable [∀ e, Nonempty (Elt F e)]

/-- The body's start out of whole buffers. -/
theorem start_intro (κ : GSem nD τ sig → ℕ) (c : Dev nD) :
    iprop(Opened κ c ∗ Scratch c ∗ owns (c : Thread nD τ) mX fullShare (x c) ∗ ownsAny (c : Thread nD τ) mOut
        ∗ owns (c : Thread nD τ) mG fullShare g ∗ owing (c : Thread nD τ) (O₀ c))
      ⊢ (Start x g c : sProp 𝕄) := by
  unfold Start Opened Scratch Local Claims Idle Berth Coming Blank GetFree OutFree
  rw [any_rows c mRecv, any_rows c mOut, any_slots c mA, any_slots c mS, any_slots c mB, any_slots c mO]
  simp only [bigSep_sep']
  iintro ⟨⟨Htb, Hab, HrG, Hright, HaG, ⟨Hcb, HcG⟩, ⟨I, A, B, O⟩, Hrecv⟩, ⟨MA, MS, MB, MO⟩, HX, Hout, HG, HO⟩
  iframe Htb Hab HrG Hright HaG Hcb HcG I A B O Hrecv MA MS MB MO HX Hout HG HO

/-- What the body ends in, with all counters at zero and the buffers whole. -/
theorem finish_elim (κ : GSem nD τ sig → ℕ) (c : Dev nD) :
    iprop(records x κ ∗ Finish x g c)
      ⊢ (|={Set.univ}=> iprop(Scratch c ∗ owns (c : Thread nD τ) mX fullShare (x c) ∗ owns (c : Thread nD τ) mOut fullShare (outcome x g c)
        ∗ Pipeline.ownSems0 osem c ∗ semVal (barCell c) 0 ∗ ownsAny (c : Thread nD τ) mRecv
        ∗ owns (c : Thread nD τ) mG fullShare g ∗ owing (c : Thread nD τ) 0) : sProp 𝕄) := by
  rw [ownSems_eq]
  unfold Finish Scratch Local Idle Got Gone GetFree OutFree
  rw [any_rows c mRecv, any_slots c mA, any_slots c mS, any_slots c mB, any_slots c mO]
  simp only [bigSep_sep']
  iintro ⟨#HR, Hab, Hgone, ⟨Hrecv, HaG⟩, Hdone, ⟨HX, MA, MS, I, A, ⟨MB, B⟩, ⟨MO, O⟩⟩, HG, HO⟩
  imod (close_bar x κ c) $$ [Hab] with Hvb
  · isplitr; · iexact HR
    iexact Hab
  imod (close_all x κ (fun k => sentCell c k) (sent_mem c)) $$ [Hgone] with HvS
  · isplitr; · iexact HR
    iexact Hgone
  imod (close_all x κ (fun k => gotCell c k) (got_mem c)) $$ [HaG] with HvG
  · isplitr; · iexact HR
    iexact HaG
  ihave Hout := (done_all x g c) $$ Hdone
  imodintro
  iframe MA MS MB MO HX Hout I A B O HvS HvG Hvb Hrecv HG HO

end Cert.KernelIdeal.Scatter

end
-- ==== Proof.Region.lean ====
module

public import proofs.«01_k».proof.Proof.Ends
public import proofs.«01_k».proof.Proof.Gen.KernelIdeal.Frame
public import Idealize.ShloMosaic.Lib.Pipeline.RegionTalk

@[expose] public section

noncomputable section

/-! The kernel's region: what it is entered with, what it is left with, and its body's obligation. -/

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Steps

variable {F : FTy → Type} [FloatOps F] [∀ e, Nonempty (Elt F e)]

local notation "𝕄" => MT nD τ sig Unit (Elt F) ℕ UU ℕ

variable (m : (ℓ : Loc nD τ sig) → Buf (Elt F) ℓ)

/-- Each device's matrix, as the kernel is entered. -/
def xs (c : Dev nD) : S8192x4096.Idx → Elt F .f32 := V m c main_v1
/-- The weights it stages. -/
def wgt (c : Dev nD) : S1x4096.Idx → Elt F .f32 := iblk m c 0 t0_0
/-- What its result holds at the end. -/
def fin (c : Dev nD) : S4096x4096.Idx → Elt F .f32 := outcome (xs m) (wgt m c) c

/-! ## The buffers outside the kernel -/

abbrev pt (c : Dev nD) (b : Ref sig .tc) (f : Buf (Elt F) ((c : Thread nD τ).loc b)) : sProp 𝕄 := ((c : Thread nD τ).loc b) ↦{fullShare} f

/-- The contents at launch, at the kernel's entry and at its exit. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v3_0) (fin m c)

/-- After the region the result's array holds the result. -/
theorem V₂_out (c : Dev nD) : V₂ m c (Proc.devRef .tc main_v3_0) = fin m c := Function.update_self ..
/-- Every other array is as it was before. -/
theorem V₂_of_ne (c : Dev nD) {b : DevRef τ sig} (h : b ≠ Proc.devRef .tc main_v3_0) : V₂ m c b = V₁ m c b := Function.update_of_ne h ..

/-- The arrays of the program. -/
def bufs : Finset (DevRef τ sig) := (StableHlo.tcRefs τ sig).filter fun b => ¬ b.isScoped
/-- Those put aside while the weights are staged. -/
def kept : Finset (DevRef τ sig) := {Proc.devRef .tc main_arg0, Proc.devRef .tc main_arg1, Proc.devRef .tc main_v1, Proc.devRef .tc main_v3_0}
/-- Those that the body reads and writes in place. -/
def touched : Finset (DevRef τ sig) := {Proc.devRef .tc main_v1, Proc.devRef .tc main_v3_0}

/-- All the arrays, one beside another. -/
theorem held_bufs (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)
      ∗ pt c main_v3_0 (W main_v3_0) ∗ pt c main_v3_1 (W main_v3_1)) := by
  unfold StableHlo.held
  rw [bigSep_eq_bigSepL_of_eq [Proc.devRef .tc main_arg0, Proc.devRef .tc main_arg1, Proc.devRef .tc main_v1, Proc.devRef .tc main_v2,
    Proc.devRef .tc main_v3_0, Proc.devRef .tc main_v3_1] (by decide) (by decide)]
  rfl

/-- The arrays put aside while the weights are staged, one beside another. -/
theorem held_kept (c : Dev nD) (W : Valuation τ sig (Elt F)) : (StableHlo.held (c : Thread nD τ) kept W : sProp 𝕄)
    = iprop(pt c main_arg0 (W main_arg0) ∗ pt c main_arg1 (W main_arg1) ∗ pt c main_v1 (W main_v1) ∗ pt c main_v3_0 (W main_v3_0)) := by
  unfold StableHlo.held
  rw [bigSep_eq_bigSepL_of_eq [Proc.devRef .tc main_arg0, Proc.devRef .tc main_arg1, Proc.devRef .tc main_v1, Proc.devRef .tc main_v3_0] (by decide) (by decide)]
  rfl

/-- The two arrays that the body reads and writes in place. -/
theorem held_touched (c : Dev nD) (W : Valuation τ sig (Elt F)) : (StableHlo.held (c : Thread nD τ) touched W : sProp 𝕄)
    = iprop(pt c main_v1 (W main_v1) ∗ pt c main_v3_0 (W main_v3_0)) := by
  unfold StableHlo.held
  rw [bigSep_eq_bigSepL_of_eq [Proc.devRef .tc main_v1, Proc.devRef .tc main_v3_0] (by decide) (by decide)]
  rfl

/-- The staged array. -/
theorem held_weights (c : Dev nD) (W : Valuation τ sig (Elt F)) :
    (StableHlo.held (c : Thread nD τ) (Pipeline.arrRefs (τ := τ) spec0) W : sProp 𝕄) = pt c main_v2 (W main_v2) := by
  unfold StableHlo.held
  rw [bigSep_eq_bigSepL_of_eq [Proc.devRef .tc main_v2] (by decide) (by decide)]
  rfl

/-- The memory at launch is the arrays held. -/
theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The only semaphore at launch is the barrier's. -/
theorem barrier_held (c : Dev nD) : (unscopedSems0 c : sProp 𝕄) = semVal (barCell c) 0 := by
  unfold unscopedSems0
  rw [show (Finset.univ.filter fun sm : SemLoc sig => ¬ sm.isScoped .tc) = {SemLoc.reg semBar} from by decide +kernel, BI.bigSep_singleton]

/-! ## The region's data -/

/-- Held as the body starts, beside the staged weights and what the core owes. -/
def Before (c : Dev nD) : sProp 𝕄 :=
  iprop(Scratch c ∗ (∃ r, prngReg c r) ∗ (pt c main_v1 (xs m c) ∗ ownsAny (c : Thread nD τ) mOut) ∗ Entry (xs m) c)
/-- Held as it ends. -/
def After (c : Dev nD) : sProp 𝕄 :=
  iprop(Scratch c ∗ (∃ r, prngReg c r) ∗ (pt c main_v1 (xs m c) ∗ pt c main_v3_0 (fin m c)) ∗ Pipeline.ownSems0 osem c
    ∗ (semVal (barCell c) 0 ∗ ownsAny (c : Thread nD τ) mRecv))

def dat (c : Dev nD) : Dat τ (Elt F) Unit ℕ UU ℕ cfg0 c where
  A w := V m c (Pipeline.arrRef spec0 w)
  after := fun | 0 => fun _ => wgt m c
  Φ t := if t.val = 0 then Before m c else After m c
  q _ := fullShare
  owed t := if t.val = 0 then O₀ c else 0

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c :=
  match p with
  | 0 => dat m c

/-- A core enters owing the barrier and its eight sends. -/
theorem owed_first (c : Dev nD) : (dat m c).owed t0_0.castSucc = O₀ c := by
  show (if (t0_0.castSucc : Fin (cfg0.N + 1)).val = 0 then O₀ c else 0) = O₀ c; exact if_pos rfl
/-- It leaves owing nothing. -/
theorem owed_last (c : Dev nD) : (dat m c).owed (Fin.last _) = 0 := by
  show (if (Fin.last cfg0.N).val = 0 then O₀ c else 0) = 0
  rw [Fin.val_last, if_neg (by rw [show cfg0.N = 1 from N_0]; decide)]

/-- What a core owes is what the region's data say, at a point where they say so much. -/
theorem owes_in (c : Dev nD) (t : Fin (cfg0.N + 1)) (O : CellTallies nD τ sig Unit) (h : (dat m c).owed t = O) :
    (owing (c : Thread nD τ) O : sProp 𝕄) ⊢ (dat m c).owesAt () t := by
  unfold owing Dat.owesAt Pipeline.owesWithin Dat.bound; rw [h]
  iintro ⟨%W, H⟩; iexists W
  isplitr; · ipureintro; exact fun _ _ => Or.inl trivial
  iexact H
/-- What the region's data say is owed is what the core owes, at a point where they say so much. -/
theorem owes_out (c : Dev nD) (t : Fin (cfg0.N + 1)) (O : CellTallies nD τ sig Unit) (h : (dat m c).owed t = O) :
    ((dat m c).owesAt () t : sProp 𝕄) ⊢ owing (c : Thread nD τ) O := by
  unfold owing Dat.owesAt Pipeline.owesWithin; rw [h]
  iintro ⟨%W, -, H⟩; iexists W; iexact H

/-- The staged window holds the weights. -/
theorem staged (c : Dev nD) (d) : (dat m c).before 0 t0_0 d = wgt m c := by
  unfold Dat.before; rw [if_pos (fetch0_0 _)]; rfl

/-- The argument's window held whole is the array held. -/
theorem pt_x (c : Dev nD) : (owns (c : Thread nD τ) mX fullShare (xs m c) : sProp 𝕄) = pt c main_v1 (xs m c) := owns_whole ..
/-- The result's window held whole is the array held. -/
theorem pt_out (c : Dev nD) : (owns (c : Thread nD τ) mOut fullShare (fin m c) : sProp 𝕄) = pt c main_v3_0 (fin m c) := owns_whole ..

/-- The printed body runs if the sequence of operations it is does. -/
theorem body_ops (c : Dev nD) (Q : PUnit → sProp 𝕄) : Run c (bodyOn c) Q ⊢ Run c (bodyAt0 t0_0) Q := by
  rw [body_eq]
  unfold Run
  rw [Prog.lift, Prog.bind_op, wp_deviceId, Prog.bind_ret]

set_option maxRecDepth 65536 in
/-- The body's obligation. -/
theorem body_obligation (c : Dev nD) : BodyObligation (dat m c) defs₀ Variants.none () Set.univ := fun t => by
  obtain rfl := fin_N0 t
  rw [bigSep_W0, bigSep_W0]
  have h : iprop(Before m c ∗ owing (c : Thread nD τ) (O₀ c) ∗ owns (c : Thread nD τ) mG fullShare (wgt m c))
      ⊢ (Run c (bodyAt0 t0_0) (fun _ => iprop(After m c ∗ owing (c : Thread nD τ) 0 ∗ owns (c : Thread nD τ) mG fullShare (wgt m c))) : sProp 𝕄) := by
    refine .trans ?_ (body_ops c _)
    rw [← bind_pure (bodyOn (F := F) c)]
    have h1 (κ : GSem nD τ sig → ℕ) : iprop(records (xs m) κ ∗ (∃ r, prngReg c r) ∗ Finish (xs m) (wgt m c) c)
        ⊢ (Run c (Prog.ret PUnit.unit) (fun _ => iprop(After m c ∗ owing (c : Thread nD τ) 0 ∗ owns (c : Thread nD τ) mG fullShare (wgt m c))) : sProp 𝕄) := by
      unfold Run After
      rw [wp_ret]
      iintro ⟨HR, Hp, HF⟩
      imod (finish_elim (xs m) (wgt m c) κ c) $$ [HR HF] with ⟨H1, H2, H3, H4, H5, H6, H7, H8⟩
      · isplitl [HR] <;> iassumption
      imodintro
      iframe H1 H4 H5 H6 H7 H8 Hp
      isplitl [H2]; · iapply (Entails.of_eq (pt_x m c)); iexact H2
      iapply (Entails.of_eq (pt_out m c)); iexact H3
    unfold Before Entry
    iintro ⟨⟨Hs, Hp, ⟨Hx, Ho⟩, ⟨%κ, #HR, #Hl, He⟩⟩, HO, HG⟩
    iapply (body_step (xs m) (wgt m c) κ c) $$ [Hs Hx Ho He HO HG]
    · isplitr; · iexact HR
      isplitr; · iexact Hl
      iapply (start_intro (xs m) (wgt m c) κ c)
      iframe He Hs Ho HG HO
      iapply (Entails.of_eq (pt_x m c).symm); iexact Hx
    iintro HF
    iapply (h1 κ)
    isplitr; · iexact HR
    isplitl [Hp] <;> iassumption
  rw [show (dat m c).Φ t0_0.castSucc = Before m c from rfl, show (dat m c).Φ t0_0.succ = After m c from rfl]
  have h2 : iprop(Before m c ∗ (dat m c).owesAt () t0_0.castSucc ∗ (∃ d, owns (c : Thread nD τ) mG fullShare ((dat m c).before 0 t0_0 d)))
      ⊢ (iprop(Before m c ∗ owing (c : Thread nD τ) (O₀ c) ∗ owns (c : Thread nD τ) mG fullShare (wgt m c)) : sProp 𝕄) := by
    iintro ⟨HB, HO, ⟨%d, HG⟩⟩
    isplitl [HB]; · iexact HB
    isplitl [HO]; · iapply (owes_out m c _ _ (owed_first m c)); iexact HO
    rw [staged]
    iexact HG
  have h3 : iprop(After m c ∗ owing (c : Thread nD τ) 0 ∗ owns (c : Thread nD τ) mG fullShare (wgt m c))
      ⊢ (iprop(After m c ∗ (dat m c).owesAt () t0_0.succ ∗ owns (c : Thread nD τ) mG fullShare ((dat m c).after 0 t0_0)) : sProp 𝕄) := by
    iintro ⟨HA, HO, HG⟩
    isplitl [HA]; · iexact HA
    isplitl [HO]; · iapply (owes_in m c _ _ (owed_last m c)); iexact HO
    iexact HG
  exact h2.trans (h.trans (Idealize.SL.Sem.wp_mono _ _ _ fun _ => h3))

end Cert.KernelIdeal.Scatter

end
-- ==== Proof.Launch.lean ====
module

public import proofs.«01_k».proof.Proof.Region
public import Idealize.ShloMosaic.Lib.Pipeline.SiteBlocks

@[expose] public section

noncomputable section

/-! The launch of the whole program, and its run: every device ends with its result, its arguments as they were and all
counters at zero. -/

namespace Cert.KernelIdeal.Scatter

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Steps

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The two segments -/

local notation "ℍ" => Pipeline.HostSeg (Name := ℕ) (U := UU) (pcfgs (F := F)) defs₀ Variants.none L lv
local notation "ℝ𝕊" => Pipeline.RegionSeg (pcfgs (F := F)) adm (pdats m) () defs₀ Variants.none L lv

/-- Beside the buffers before the kernel: what a device holds of the agreement, its register and what it owes. -/
def Aside (c : Dev nD) : sProp 𝕄 :=
  iprop(((∃ κ, records (xs m) κ ∗ Share c) ∗ Claims c) ∗ (∃ r, prngReg c r) ∗ owing (c : Thread nD τ) (O₀ c))
/-- What is left at the end. -/
def Rest (c : Dev nD) : sProp 𝕄 := iprop(semVal (barCell c) 0 ∗ ownsAny (c : Thread nD τ) mRecv)

/-- The host's operations touch the arrays only. -/
theorem ops_sub : ∀ op ∈ (hostOps0 : List (HloOp τ sig (Elt F))), op.bufs ⊆ bufs := by
  intro op h
  simp only [List.mem_cons, List.not_mem_nil, or_false] at h
  rcases h with rfl | rfl
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide

/-- The two reshapes before the kernel. -/
def hostSeg : ℍ := Pipeline.HostSeg.ofOps _ _ _ _ _ bufs hostOps0 ops_sub (List.forall_iff_forall_mem.mp hostOps0_fresh) (V₀ m) (Aside m)

/-- The facts of the launch's parts. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What is owed at launch is arrivals at the partner and the partner's barrier. -/
theorem O₀_pos {c : Dev nD} {g : GSem nD τ sig} {u : Unit} (h : 0 < O₀ c g u) : (∃ k, g = gotCell (peer c) k) ∨ g = barCell (peer c) := by
  unfold O₀ at h
  rw [Pi.add_apply, Finsupp.add_apply] at h
  rcases Nat.add_pos_iff_pos_or_pos.mp h with h | h
  · exact .inl (due_pos h)
  · rw [tallyAt_apply] at h
    split at h
    · next hg => exact .inr hg.1
    · exact absurd h (Nat.lt_irrefl 0)

/-- What the region's data owe is above the pipeline's own waits. -/
theorem owed_levels (c : Dev nD) (t : Fin (cfg0.N + 1)) (g : GSem nD τ sig) (i : Unit) (h : 0 < (dat m c).owed t g i) :
    i ∈ L g ∧ (0 : ℕ) < lv g i := by
  rw [show (dat m c).owed t = if t.val = 0 then O₀ c else 0 from rfl] at h
  split at h
  · rcases O₀_pos h with ⟨k, rfl⟩ | rfl
    · exact ⟨by rw [L_tc]; exact Finset.mem_singleton_self _, by rw [lv_got]; decide⟩
    · exact ⟨by rw [L_tc]; exact Finset.mem_singleton_self _, by rw [lv_bar]; decide⟩
  · exact absurd h (Nat.lt_irrefl 0)

/-- The pipeline's semaphores carry nothing of the agreement. -/
theorem stage_idle : ∀ (w : Fin cfg0.W) (s : Fin (cfg0.win w).nbuf), role (.dma ((cfg0.win w).sem s)) = .idle := by decide +kernel

/-- The staged array at the region's start. -/
theorem arr_first (c : Dev nD) (w : Fin cfg0.W) : (dat m c).arrAt w 0 = V₁ m c (Proc.devRef .tc (Pipeline.arrRef spec0 w)) := rfl
/-- The staged array at its end: as it was. -/
theorem arr_last (c : Dev nD) : ∀ w : Fin cfg0.W, (dat m c).arrAt w cfg0.N = V₂ m c (Proc.devRef .tc (Pipeline.arrRef spec0 w)) :=
  fun w => by
    fin_cases w
    rw [Pipeline.Dat.arrAt_in _ _ rfl, V₂_of_ne m c (by decide)]
    rfl

/-- What the region is entered with gives what the body starts from. -/
theorem enter (c : Dev nD) : iprop(Pipeline.scopedRest spec0 c ∗ (∃ r, prngReg c r) ∗ StableHlo.held (c.tc : Thread nD τ) touched (V₁ m c) ∗ Entry (xs m) c)
    ⊢ (Before m c : sProp 𝕄) := by
  rw [scratch_eq, held_touched]
  unfold Before
  iintro ⟨Hs, Hp, ⟨Hx, Ho⟩, HE⟩
  iframe Hs Hp HE
  isplitl [Hx]; · iexact Hx
  iapply (Entails.of_eq (any_whole c main_v3_0).symm)
  iexists _; iexact Ho

/-- What the body ends with gives what the region is left with. -/
theorem leave (c : Dev nD) : (After m c : sProp 𝕄)
    ⊢ iprop(Pipeline.scopedRest spec0 c ∗ (∃ r, prngReg c r) ∗ StableHlo.held (c.tc : Thread nD τ) touched (V₂ m c) ∗ Pipeline.ownSems0 osem c ∗ Rest c) := by
  rw [scratch_eq, held_touched, V₂_out, V₂_of_ne m c (by decide)]
  exact .rfl

set_option backward.isDefEq.respectTransparency.types false in
def regSeg : ℝ𝕊 0 :=
  Pipeline.RegionSeg.ofTalk (pcfgs (F := F)) adm (pdats m) () defs₀ Variants.none L lv 0 osem osem_facts
    touched kept (by decide) kit rfl (fun c => (body_obligation m c).loose)
    (fun _ => 0) O₀ (fun c => (owed_first m c).trans (zero_add _).symm) (owed_last m) (fun _ => rfl) (fun c w => by fin_cases w; rfl)
    (V₁ m) (V₂ m)
    (fun c b hb => V₂_of_ne m c (fun h => (Finset.mem_sdiff.mp hb).2 (by rw [h]; decide)))
    (Ready (xs m)) Rest (Entry (xs m)) Rest (entry_intro (xs m)) (enter m) (leave m)
    (fun c => by iintro H; imodintro; iexact H)
    (fun _ => 0)
    ⟨fun c w s => by rw [L_tc]; exact Finset.mem_singleton_self _, fun c w s => le_of_eq (lv_idle (stage_idle w s) ()), fun c t g i h => owed_levels m c t g i h⟩
    (fun _ => iprop(emp))
    (arr_first m) (arr_last m)

/-- The arrays after the host's operations give what the region asks for. -/
theorem reg_pre (c : Dev nD) : iprop(StableHlo.held (c : Thread nD τ) bufs (V₁ m c) ∗ Aside m c) ⊢ (regSeg m).pre c := by
  show _ ⊢ iprop(StableHlo.held (c.tc : Thread nD τ) (Pipeline.arrRefs (τ := τ) spec0) (V₁ m c) ∗ (∃ r, prngReg c r)
    ∗ (StableHlo.held (c.tc : Thread nD τ) kept (V₁ m c) ∗ emp) ∗ Ready (xs m) c ∗ ∃ Wd, owes (c : Thread nD τ) (0 + O₀ c) Wd)
  rw [held_bufs, held_weights, held_kept, zero_add]
  unfold Aside Ready owing
  iintro ⟨⟨H0, H1, H2, H3, H4, H5⟩, ⟨HS, HC⟩, Hp, HO⟩
  iframe H0 H1 H2 H3 H4 HS HC Hp HO
  iapply (Entails.of_eq (any_whole c main_v3_1).symm)
  iexists _; iexact H5

/-- What each device is left with. -/
abbrev Tₙ (c : Dev nD) : sProp 𝕄 := iprop(StableHlo.held (c : Thread nD τ) kept (V₂ m c) ∗ semVal (barCell c) 0)

/-- What the region leaves is the end of the program. -/
theorem reg_post (c : Dev nD) : (regSeg m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) kept (V₂ m c) ∗ emp) ∗ Rest c ∗ ∃ Wd, owes (c : Thread nD τ) (0 : CellTallies nD τ sig Unit) Wd) ⊢ _
  unfold Rest
  iintro ⟨-, -, ⟨Hh, -⟩, ⟨Hb, -⟩, HO⟩
  iframe Hh Hb HO

def segs : List (Pipeline.Seg (pcfgs (F := F)) adm (pdats m) () defs₀ Variants.none L lv) := [.host (hostSeg m), .region (regSeg m)]

/-- The program is its host operations and then the region. -/
theorem main_eq (c : Dev nD) : main (F := F) c = Pipeline.Seg.run (segs m) := main_segs adm (pdats m) () Variants.none L lv (hostSeg m) (regSeg m) rfl c

/-! ## The launch -/

/-- No chunk's semaphore is the barrier's. -/
theorem chunk_ne_bar (q : Fin 2 × Fin 8) : chunkSem q ≠ .reg semBar := by
  intro h
  have := role_chunk q
  rw [h, role_bar] at this
  split at this <;> cases this

/-- Barriers and chunks' cells are disjoint. -/
theorem cells_disjoint : Disjoint (barCells : Finset (GSem nD τ sig)) chunkCells := by
  rw [Finset.disjoint_left]
  rintro g h₁ h₂
  obtain ⟨c, -, rfl⟩ := Finset.mem_map.mp h₁
  obtain ⟨p, -, h⟩ := Finset.mem_map.mp h₂
  exact chunk_ne_bar p.2 (congrArg Prod.snd h)

/-- One right to pay for every cell. -/
def rights : Finset (GSem nD τ sig × ℕ × Unit) :=
  (barCells ∪ chunkCells).map ⟨fun g => (g, 0, ()), fun _ _ h => congrArg Prod.fst h⟩

/-- A family over the chunks' cells, device by device and direction by direction. -/
theorem over_chunks (Φ : GSem nD τ sig → sProp 𝕄) : bigSep chunkCells Φ
    = iprop((bigSep Finset.univ fun c : Dev nD => bigSep Finset.univ fun k : Fin 8 => Φ (sentCell c k))
        ∗ (bigSep Finset.univ fun c : Dev nD => bigSep Finset.univ fun k : Fin 8 => Φ (gotCell c k))) := by
  rw [bigSep_map, bigSep_univ_prod, ← bigSep_sep']
  refine bigSep_congr fun c _ => ?_
  rw [bigSep_univ_prod]
  exact bigSep_two (fun a : Fin 2 => bigSep Finset.univ fun k : Fin 8 => Φ (chunkEmb (c, (a, k))))

/-- Something of every barrier is something of every device. -/
theorem over_bars (Φ : GSem nD τ sig → sProp 𝕄) : bigSep barCells Φ = bigSep Finset.univ fun c : Dev nD => Φ (barCell c) :=
  bigSep_map barEmb

/-- The rights to pay, each to the device that pays: the barrier's and the arrivals' go to the partner. -/
theorem rights_dealt : (bigSep rights fun z => (dutyTok ER z.1 z.2.1 z.2.2 : sProp 𝕄))
    ⊢ bigSep Finset.univ fun c : Dev nD => iprop(dutyTok ER (barCell (peer c)) 0 ()
      ∗ ((bigSep Finset.univ fun k : Fin 8 => dutyTok ER (sentCell c k) 0 ()) ∗ (bigSep Finset.univ fun k : Fin 8 => dutyTok ER (gotCell (peer c) k) 0 ()))) := by
  refine Entails.of_eq ?_
  unfold rights
  rw [bigSep_map, BI.bigSep_union cells_disjoint, over_bars, over_chunks, bigSep_sep', bigSep_sep']
  exact congrArg₂ BIBase.sep (bigSep_univ_equiv swap fun c : Dev nD => (dutyTok ER (barCell c) 0 () : sProp 𝕄))
    (congrArg₂ BIBase.sep rfl (bigSep_univ_equiv swap fun c : Dev nD => (bigSep Finset.univ fun k : Fin 8 => dutyTok ER (gotCell c k) 0 () : sProp 𝕄)))

/-! ## What is owed, as claims -/

/-- Barriers of different devices are different. -/
theorem bar_inj {c d : Dev nD} (h : barCell c = barCell d) : c = d := congrArg (fun g : GSem nD τ sig => g.1.1) h
/-- So are arrivals of different devices or chunks. -/
theorem got_inj {c d : Dev nD} {j k : Fin 8} (h : gotCell c j = gotCell d k) : c = d ∧ j = k := by
  refine ⟨congrArg (fun g : GSem nD τ sig => g.1.1) h, ?_⟩
  have := congrArg (fun g : GSem nD τ sig => role g.2) h
  simp only [role_got] at this
  exact Role.got.inj this
/-- A barrier is no arrival. -/
theorem bar_ne_got (c d : Dev nD) (k : Fin 8) : barCell c ≠ gotCell d k := fun h => by
  have := congrArg (fun g : GSem nD τ sig => role g.2) h
  simp only [role_bar, role_got] at this
  cases this
/-- Being a partner goes both ways. -/
theorem peer_flip {c d : Dev nD} : c = peer d ↔ d = peer c := ⟨fun h => by rw [h, peer_peer], fun h => by rw [h, peer_peer]⟩

/-- A barrier's unit is owed by the partner alone. -/
theorem owed_bar (d c : Dev nD) : O₀ d (barCell c) () = if d = peer c then 1 else 0 := by
  unfold O₀
  rw [Pi.add_apply, Finsupp.add_apply, tallyAt_apply, show due d 0 (barCell c) () = 0 from Nat.eq_zero_of_not_pos (fun h => by
    obtain ⟨k, hk⟩ := due_pos h
    exact bar_ne_got _ _ _ hk), Nat.zero_add]
  exact if_congr ⟨fun h => peer_flip.mp (bar_inj h.1), fun h => ⟨congrArg barCell (peer_flip.mpr h), rfl⟩⟩ rfl rfl

/-- An arrival is owed by the partner alone. -/
theorem owed_got (d c : Dev nD) (k : Fin 8) : O₀ d (gotCell c k) () = if d = peer c then N else 0 := by
  unfold O₀ due
  rw [Pi.add_apply, Finsupp.add_apply, Finset.sum_apply, Finsupp.finset_sum_apply, tallyAt_apply,
    if_neg (fun h => bar_ne_got _ _ _ h.1.symm), Nat.add_zero, Finset.sum_congr rfl fun j _ => tallyAt_apply ..]
  by_cases h : d = peer c
  · rw [if_pos h, Finset.sum_eq_single k (fun j _ hj => if_neg fun e => hj (got_inj e.1).2.symm) (fun hk => absurd (Finset.mem_filter.mpr ⟨Finset.mem_univ k, Nat.zero_le _⟩) hk),
      if_pos ⟨by rw [← peer_flip.mpr h], rfl⟩]
  · rw [if_neg h]
    exact Finset.sum_eq_zero fun j _ => if_neg fun e => h (peer_flip.mp (got_inj e.1).1)

/-- What all devices together owe a cell, if only the partner of its device owes it anything. -/
theorem claim_of (c : Dev nD) (g : GSem nD τ sig) (n : ℕ) (h : ∀ d, O₀ d g () = if d = peer c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

def gotSems : Fin 8 ↪ SemLoc sig := ⟨fun k => .dma (semR k), fun j k h => (got_inj (c := 0) (d := 0) (congrArg (Prod.mk ((0 : Dev nD) : Thread nD τ)) h)).2⟩

/-- The credits of the launch are a device's claims on its barrier and its arrivals. -/
theorem claims_intro (c : Dev nD) : (Pipeline.launchCred O₀ c : sProp 𝕄) ⊢ Claims c := by
  unfold Pipeline.launchCred Claims
  rw [bigSep_univ_at _ (SemLoc.reg semBar), claim_of c _ 1 fun d => owed_bar d c]
  refine sep_mono_right ?_
  refine .trans (bigSep_subset (t := Finset.univ.map gotSems) ?_) (Entails.of_eq ?_)
  · intro s hs
    obtain ⟨k, -, rfl⟩ := Finset.mem_map.mp hs
    exact Finset.mem_erase.mpr ⟨fun h => bar_ne_got c c k (congrArg (Prod.mk (c : Thread nD τ)) h.symm), Finset.mem_univ _⟩
  · rw [bigSep_map]
    refine bigSep_congr fun k _ => ?_
    show cred (tallyOn (gotCell c k) (launchCredit (Pipeline.owing O₀) 0 (gotCell c k))) = _
    rw [claim_of c _ N fun d => owed_got d c k]

/-! ## Before the first operation -/

/-- Of the launch's resource, the part that carries the agreement. -/
theorem own_flights (X : UR sig nD τ × Counters) : (BI.own ((embR : Emb (UR sig nD τ × Counters) 𝕄) X) : sProp 𝕄) ⊢ BI.own (ER X.1) := by
  iintro H
  ihave H' := (own_pair_emb _ _ _) $$ H
  icases H' with ⟨H, -⟩
  iexact H

/-- The element of the launch: the region's staging, and the agreement's cells with every right to pay. -/
def u₀ : UU :=
  (initOf (Pipeline.cells (Pipeline.pin (pcfgs (F := F)) adm) cellOf_inj) (Pipeline.launchToks (Pipeline.pin (pcfgs (F := F)) adm) cellOf_inj),
    (launchOf barCells chunkCells rights, 1))

/-- The agreement's element, lying with one device until the cells are made. -/
def G (c : Dev nD) : sProp 𝕄 := if c = 0 then BI.own (ER (launchOf barCells chunkCells rights)) else iprop(emp)
/-- One device is given the whole agreement at launch, the others nothing: together it is given. -/
theorem G_all : bigSep Finset.univ (G (F := F)) = BI.own (ER (launchOf barCells chunkCells rights)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ Aside m c)

/-- What a device holds at launch besides the agreement. -/
def Own (c : Dev nD) : sProp 𝕄 :=
  iprop(StableHlo.held (c : Thread nD τ) bufs (V₀ m c) ∗ Claims c ∗ (∃ r, prngReg c r) ∗ owing (c : Thread nD τ) (O₀ c))

/-- The record, a device's share and what it owns are what its run starts from. -/
theorem T₀_intro (κ : GSem nD τ sig → ℕ) (c : Dev nD) : iprop(records (xs m) κ ∗ (Share c ∗ Own m c)) ⊢ T₀ m c := by
  unfold Own T₀ Aside
  iintro ⟨HR, HS, Hh, HC, Hp, HO⟩
  iframe Hh HC Hp HO
  iexists κ
  isplitl [HR] <;> iassumption

/-- The memory and semaphores of a device at launch are what it owns. -/
theorem own_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(Own m c ∗ (semVal (barCell c) 0 ∗ G c)) : sProp 𝕄) := by
  rw [show unscopedBufs c (fun b => m ((c : Thread nD τ).loc b)) = StableHlo.held (c : Thread nD τ) bufs (V₀ m c) from bufs_held c (V₀ m c), barrier_held]
  unfold Own
  iintro ⟨Hh, Hb, HO, Hc, Hp, HG⟩
  iframe Hh Hb HG
  isplitl [Hc]; · iapply (claims_intro (F := F) c); iexact Hc
  isplitl [Hp]; · iexists (ρ c); iexact Hp
  iapply (owing_intro (c : Thread nD τ) (O₀ c) ∅); iexact HO

/-- All devices' first states, out of what the launch deals. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => Own m c)
        ∗ (bigSep barCells fun g => semVal g 0) ∗ BI.own (ER (launchOf barCells chunkCells rights))) : sProp 𝕄) := by
    rw [over_bars, ← G_all, ← bigSep_sep', ← bigSep_sep']
    exact bigSep_mono fun c _ => own_intro m ρ c
  have h2 : iprop((bigSep barCells fun g => atPos ER g 0 ∅ 0) ∗ (bigSep chunkCells fun g => openTok ER g) ∗ (bigSep rights fun z => dutyTok ER z.1 z.2.1 z.2.2))
      ⊢ (bigSep Finset.univ fun c : Dev nD => Share c : sProp 𝕄) := by
    refine .trans (sep_mono_right (sep_mono_right rights_dealt)) (Entails.of_eq ?_)
    rw [over_bars, over_chunks]
    unfold Share
    simp only [bigSep_sep']
  have h3 (κ : GSem nD τ sig → ℕ) : iprop(records (xs m) κ ∗ ((bigSep Finset.univ fun c : Dev nD => Share c) ∗ (bigSep Finset.univ fun c : Dev nD => Own m c)))
      ⊢ (bigSep Finset.univ (T₀ m) : sProp 𝕄) := by
    rw [← bigSep_sep']
    exact bigSep_with_persistent fun c _ => T₀_intro m κ c
  iintro ⟨H, -⟩
  ihave H' := h1 $$ H
  icases H' with ⟨HB, Hv, Hu⟩
  imod (Rounds.fund_launch ER (deal (xs m)) cells_disjoint (fun g _ h => h) rights) $$ [Hv Hu] with ⟨%κ, -, #Hinv, #Hr, Hat, Hopen, Htok⟩
  · isplitl [Hv] <;> iassumption
  imodintro
  iapply (h3 κ)
  isplitr
  · unfold records
    isplitr <;> iassumption
  isplitr [HB]
  · iapply h2
    iframe Hat Hopen Htok
  iexact HB

/-- The only semaphore outside the region is the barrier's. -/
theorem unscoped_eq : ∀ sm : SemLoc sig, sm.isScoped .tc = false → sm = .reg semBar := by decide +kernel

/-- The first argument ends as it was. -/
theorem V₂_arg0 (c : Dev nD) : V₂ m c main_arg0 = m ((c : Thread nD τ).loc main_arg0) := (V₂_of_ne m c (by decide)).trans (V_main_arg0 m c)
/-- The second argument ends as it was. -/
theorem V₂_arg1 (c : Dev nD) : V₂ m c main_arg1 = m ((c : Thread nD τ).loc main_arg1) := (V₂_of_ne m c (by decide)).trans (V_main_arg1 m c)

set_option backward.isDefEq.respectTransparency.types false in
/-- From any memory with all counters at zero the program terminates; every device's result is then `fin`, its arguments
are as they were and all counters are at zero. -/
theorem run_main : θ_run defs (onTc (τ := τ) (main (F := F))) ⟨m, fun _ => 0, ρ⟩
    (fun r => (∀ c : Dev nD, r.2.mem ((c : Thread nD τ).loc main_v3_0) = fin m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]
      iapply (own_flights (launchOf barCells chunkCells rights, 1))
      iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v3_0) = fin m c
        ∧ s.mem ((c : Thread nD τ).loc main_arg0) = m ((c : Thread nD τ).loc main_arg0)
        ∧ s.mem ((c : Thread nD τ).loc main_arg1) = m ((c : Thread nD τ).loc main_arg1)) ∧ s.sem (barCell c) = 0)
    (hfin := fun c s' => by
      dsimp only [Tₙ]; rw [held_kept, V₂_arg0, V₂_arg1, V₂_out]
      iintro ⟨⟨⟨H0, H1, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h3, Buf.eq_of_forall_mem_univ h0, Buf.eq_of_forall_mem_univ h1⟩, by simpa using hb⟩
      iexact HSI)
    (hQ := fun s h hs => ⟨fun c => (h c).1, sem_eq_zero hs fun c sm hsm => by
        obtain rfl := unscoped_eq sm hsm
        exact (h c).2⟩)

end Cert.KernelIdeal.Scatter

end
-- ==== Proof.Scalar.lean ====
/- The scalar facts behind the normalisation: over the extended reals, dividing by a square root is multiplying by the
   reciprocal square root once what is under the root is positive, and what a row's root is taken of is positive. -/
module

public import Idealize.ShloMosaic.Lib.Pointwise
public import Idealize.ShloMosaic.Lib.IdealHost

@[expose] public section

noncomputable section

namespace Cert.Scale

open Idealize.ShloMosaic

/-- The length of a row, as the programs write it. -/
abbrev len : EReal := Ideal.ofBits .f32 0x45800000#32
/-- What is added under the root, as the programs write it. -/
abbrev eps : EReal := Ideal.ofBits .f32 0x358637BD#32

/-- A row is 4096 long. -/
theorem len_eq : len = ((4096 : ℝ) : EReal) := by
  unfold len
  simp [Ideal.ofBits, Ideal.ieee, -EReal.coe_mul]
  norm_num

/-- What is added under the root is positive. -/
theorem eps_pos : 0 < eps := by
  unfold eps
  simp [Ideal.ofBits, Ideal.ieee]
  positivity

/-- Dividing by the root of a positive number is multiplying by the number's reciprocal root. -/
theorem div_root (y s : EReal) (hs : 0 < s) : Ideal.div y (Ideal.sqrt s) = y * Ideal.rsqrt s := by
  induction s with
  | bot => exact absurd hs (by simp)
  | top =>
    change (if (⊤ : EReal) = 0 then _ else y * (⊤ : EReal)⁻¹) = y * 0
    rw [if_neg (by simp), EReal.inv_top]
  | coe r =>
    have hr : 0 < r := by exact_mod_cast hs
    have hq : ((Real.sqrt r : ℝ) : EReal) ≠ 0 := by exact_mod_cast (Real.sqrt_pos.mpr hr).ne'
    have h1 : Ideal.sqrt (r : EReal) = (Real.sqrt r : ℝ) := if_neg hr.not_gt
    have h2 : Ideal.rsqrt (r : EReal) = ((Real.sqrt r)⁻¹ : ℝ) := (if_neg hr.not_gt).trans (if_neg hr.ne')
    rw [h1, h2, Ideal.div, if_neg hq, EReal.coe_inv]

/-- A square is not negative. -/
theorem sq_nonneg (y : EReal) : 0 ≤ y * y := by
  induction y with
  | bot => simp
  | top => simp
  | coe r => exact_mod_cast mul_self_nonneg r

/-- What a row's root is taken of: the mean of its squares, and `eps`. -/
def spread {n : ℕ} (y : Fin n → EReal) : EReal := Ideal.div (∑ k, y k * y k) len + eps

/-- It is positive. -/
theorem spread_pos {n : ℕ} (y : Fin n → EReal) : 0 < spread y := by
  have hl : len ≠ 0 := by rw [len_eq]; norm_num
  have hn : 0 ≤ ∑ k, y k * y k := Finset.sum_nonneg fun k _ => sq_nonneg (y k)
  have hd : 0 ≤ Ideal.div (∑ k, y k * y k) len := by
    unfold Ideal.div
    rw [if_neg hl, len_eq]
    exact mul_nonneg hn (EReal.inv_nonneg_of_nonneg (by norm_num))
  exact lt_of_lt_of_le eps_pos (le_add_of_nonneg_left hd)

/-- One entry of a normalised row: the row's entry over its root, by the weight. -/
def scaled (y : Fin 4096 → EReal) (w : Fin 4096 → EReal) (l : Fin 4096) : EReal := y l * Ideal.rsqrt (spread y) * w l

end Cert.Scale

end
-- ==== Proof.Value.lean ====
/- What the kernel leaves, over the extended reals: each row of a device's result in closed form. -/
module

public import proofs.«01_k».proof.Proof.Region
public import proofs.«01_k».proof.Proof.Scalar
public import Idealize.ShloMosaic.Lib.Claim
public import Idealize.ShloMosaic.Lib.StableHlo.Run

@[expose] public section

noncomputable section

namespace Cert.KernelIdeal.Scatter

open Idealize.ShloMosaic Idealize.ShloMosaic.TcCoe Idealize.ShloMosaic.StableHlo Idealize.SL.Sem Cert.KernelIdeal Cert.KernelIdeal.Gen Cert.Steps Cert.Scale

/-! ## The vectors at an index -/

/-- A window's contents as a matrix, at an index. -/
theorem flat_at {β : Type} (Z : S1x512x4096.Idx → β) (r : Fin 512) (l : Fin 4096) : flat sq Z (ix2 r l) = Z (ix3 0 r l) := by
  change shapeCast S512x4096 Z _ (ix2 r l) = _
  pointwise

/-- A matrix as a window's contents, at an index. -/
theorem wide_at {β : Type} (X : S512x4096.Idx → β) (r : Fin 512) (l : Fin 4096) : wide sq X (ix3 0 r l) = X (ix2 r l) := by
  rw [← flat_at (wide sq X)]
  unfold flat wide
  rw [Equiv.symm_apply_apply]

/-- A chunk sent is the chunk: the change of format keeps a number's value. -/
theorem sendVec_at (v : Vec Ideal S1x512x4096 .f32) (r : Fin 512) (l : Fin 4096) : sendVec v (ix3 0 r l) = v (ix3 0 r l) := by
  unfold sendVec k0_pay1
  pointwise

/-- A chunk of the result at an index: the sum of what was kept and what was received, normalised along its row. -/
theorem outVec_at (a : Vec Ideal S1x512x4096 .f32) (b : Vec Ideal S1x512x4096 .bf16) (g : Vec Ideal S1x4096 .f32) (r : Fin 512) (l : Fin 4096) :
    outVec a b g (ix3 0 r l) = scaled (fun j => a (ix3 0 r j) + b (ix3 0 r j)) (fun j => g (ix2 0 j)) l := by
  unfold outVec k0_pay12 k0_pay11 k0_pay10 scaled spread len eps
  pointwise

/-! ## The rows -/

/-- The row of the argument that row `r` of chunk `k` of a device's result is the sum of. -/
def rowOf (c : Dev nD) (k : Fin 8) (r : Fin 512) : Fin 8192 := ⟨4096 * (c.val % 2) + 512 * k.val + r.val, by omega⟩

/-- Where the rows kept start, in closed form. -/
theorem keepOff_at : ∀ (c : Dev nD) (k : Fin 8), keepOff c k = ![4096 * (c.val % 2) + 512 * k.val, 0] := by decide +kernel
/-- Where the rows the partner sends start: at the same place. -/
theorem sendOff_at : ∀ (c : Dev nD) (k : Fin 8), sendOff (peer c) k = ![4096 * (c.val % 2) + 512 * k.val, 0] := by decide +kernel

/-- Where an entry of a block of unit stride lies. -/
theorem unit_at {s : Shape} {off size : Fin s.rank → ℕ} (inb) (j : (Rect.unit (s := s) off size inb).shape.Idx) (a : Fin s.rank) :
    ((Rect.unit (s := s) off size inb).emb j a).val = off a + (j a).val := by
  rw [Rect.emb_apply]
  change off a + 1 * _ = _
  rw [Nat.one_mul]

variable (x : Dev nD → S8192x4096.Idx → Elt Ideal .f32)

/-- What stays, at an index. -/
theorem staying_at (c : Dev nD) (k : Fin 8) (r : Fin 512) (l : Fin 4096) : staying x c k (ix2 r l) = x c (ix2 (rowOf c k r) l) := by
  refine congrArg (x c) (funext fun a => Fin.ext ?_)
  refine (unit_at _ _ a).trans ((congrArg (· + _) (congrFun (keepOff_at c k) a)).trans ?_)
  match a with
  | 0 => rfl
  | 1 => exact Nat.zero_add _

/-- What the partner sends is its argument's rows of the same numbers. -/
theorem leaving_at (c : Dev nD) (k : Fin 8) (r : Fin 512) (l : Fin 4096) :
    leaving x (peer c) k (ix2 r l) = x (peer c) (ix2 (rowOf c k r) l) := by
  refine congrArg (x (peer c)) (funext fun a => Fin.ext ?_)
  refine (unit_at _ _ a).trans ((congrArg (· + _) (congrFun (sendOff_at c k) a)).trans ?_)
  match a with
  | 0 => rfl
  | 1 => exact Nat.zero_add _

/-- The result of a device, an entry of it: the sum of its own row and its partner's, normalised. -/
theorem result_at (g : S1x4096.Idx → Elt Ideal .f32) (c : Dev nD) (k : Fin 8) (r : Fin 512) (l : Fin 4096) :
    result x g c k (ix2 r l)
      = scaled (fun j => x c (ix2 (rowOf c k r) j) + x (peer c) (ix2 (rowOf c k r) j)) (fun j => g (ix2 0 j)) l := by
  unfold result
  rw [flat_at, outVec_at]
  congr 1
  funext j
  unfold sending
  rw [wide_at, wide_at, flat_at, sendVec_at, wide_at, staying_at, leaving_at]

/-- The same of the whole of a device's result. -/
theorem outcome_at (g : S1x4096.Idx → Elt Ideal .f32) (c : Dev nD) (R : Fin 4096) (l : Fin 4096) (R' : Fin 8192) (hR : R'.val = 4096 * (c.val % 2) + R.val) :
    outcome x g c (ix2 R l) = scaled (fun j => x c (ix2 R' j) + x (peer c) (ix2 R' j)) (fun j => g (ix2 0 j)) l := by
  let k : Fin 8 := ⟨R.val / 512, by omega⟩
  let r : Fin 512 := ⟨R.val % 512, by omega⟩
  have h : (ix2 R l : S4096x4096.Idx) = (rowRect k).emb (ix2 r l) := funext fun a => Fin.ext (by
    unfold rowRect
    rw [unit_at]
    match a with
    | 0 => exact (Nat.div_add_mod R.val 512).symm
    | 1 => exact (Nat.zero_add _).symm)
  have h' : R' = rowOf c k r := Fin.ext (by change R'.val = 4096 * (c.val % 2) + 512 * (R.val / 512) + R.val % 512; omega)
  rw [h, outcome_rows, result_at, h']

/-! ## The arguments -/

/-- The argument without its leading axis, at an index. -/
theorem drop_at {β : Type} (v : S1x8192x4096.Idx → β) (h : S1x8192x4096.ShapeCasts S8192x4096) (R : Fin 8192) (l : Fin 4096) :
    shapeCast S8192x4096 v h (ix2 R l) = v (ix3 0 R l) := by
  pointwise

/-- The weights with a leading axis, at an index. -/
theorem lift_at {β : Type} (v : S4096.Idx → β) (h : S4096.ShapeCasts S1x4096) (l : Fin 4096) :
    shapeCast S1x4096 v h (ix2 0 l) = v (ix1 l) := by
  pointwise

variable (m : (ℓ : Loc nD τ sig) → Buf (Elt Ideal) ℓ)

/-- A device's first argument, as numbers. -/
def part (c : Dev nD) : S1x8192x4096.Idx → EReal := m ((c : Thread nD τ).loc main_arg0)
/-- A device's second argument, as numbers. -/
def weights (c : Dev nD) : S4096.Idx → EReal := m ((c : Thread nD τ).loc main_arg1)

/-- The rows the kernel reads, by the argument. -/
theorem xs_at (c : Dev nD) (R : Fin 8192) (l : Fin 4096) : xs m c (ix2 R l) = part m c (ix3 0 R l) := by
  have h : xs m c = shapeCast S8192x4096 (m ((c : Thread nD τ).loc main_arg0)) shapeCasts_S1x8192x4096_S8192x4096 := by
    unfold xs
    unfold_abbrev_sides
    after_results
    rfl
  rw [h, drop_at, part]

/-- The weights the kernel reads, by the argument. -/
theorem wgt_at (c : Dev nD) (l : Fin 4096) : wgt m c (ix2 0 l) = weights m c (ix1 l) := by
  have h : V m c main_v2 = shapeCast S1x4096 (m ((c : Thread nD τ).loc main_arg1)) shapeCasts_S4096_S1x4096 := by
    unfold_abbrev_sides
    after_results
    rfl
  have h' : wgt m c (ix2 0 l) = V m c main_v2 (ix2 0 l) := by
    refine congrArg (V m c main_v2) (funext fun a => ?_)
    match a with
    | 0 => rfl
    | 1 => exact Fin.ext (Pipeline.Window.rect_emb_val_of_index_zero win0_0 t0_0 1 rfl (ix2 0 l))
  rw [h', h, lift_at, weights]

/-- What a device ends with, an entry of it, by the arguments: row `R'` of the whole result. -/
theorem fin_at (c : Dev nD) (R : Fin 4096) (l : Fin 4096) (R' : Fin 8192) (hR : R'.val = 4096 * (c.val % 2) + R.val) :
    fin m c (ix2 R l) = scaled (fun j => part m c (ix3 0 R' j) + part m (peer c) (ix3 0 R' j)) (fun j => weights m c (ix1 j)) l := by
  unfold fin
  rw [outcome_at (xs m) (wgt m c) c R l R' hR]
  simp only [xs_at, wgt_at]

end Cert.KernelIdeal.Scatter

end
-- ==== Proof.Meet.lean ====
/- The two programs' results are one array: the kernel's parts of it by the devices, the reference's whole. -/
module

public import proofs.«01_k».proof.Proof.Value
public import proofs.«01_k».proof.Proof.Gen.ReferenceIdeal
public import proofs.«01_k».proof.Proof.Gen.ReferenceIdeal.Run
public import Idealize.ShloMosaic.Lib.Layout
public import Idealize.ShloMosaic.Lib.StableHlo.RunHlo

@[expose] public section

noncomputable section

namespace Cert.Meet

open Idealize.ShloMosaic Idealize.ShloMosaic.TcCoe Idealize.SL.Sem Cert.Scale

/-- The whole result, by the whole arguments: the sum of the two parts, each row normalised and weighted. -/
def whole (A : (⟨3, ![2, 8192, 4096]⟩ : Shape).Idx → EReal) (G : (⟨1, ![4096]⟩ : Shape).Idx → EReal) : (⟨2, ![8192, 4096]⟩ : Shape).Idx → EReal :=
  fun i => scaled (fun j => A (ix3 0 (i 0) j) + A (ix3 1 (i 0) j)) (fun j => G (ix1 j)) (i 1)

/-! ## The reference -/

section
open Cert.ReferenceIdeal

/-- The reference ends with the whole result. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD) : Thread nD τ).loc main_v13)
          = whole (m (((0 : Dev nD) : Thread nD τ).loc main_arg0)) (m (((0 : Dev nD) : Thread nD τ).loc main_arg1))
        ∧ r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1)) :=
  θ_run_mono (Value.run m g) fun r h => ⟨(h 0).1.trans (funext fun i => by
    unfold whole scaled
    rw [← div_root _ _ (spread_pos _)]
    unfold spread len eps
    pointwise
    simp only [Fin.sum_univ_two]), (h 0).2⟩

end

/-! ## The kernel -/

section
open Cert.KernelIdeal Cert.KernelIdeal.Scatter

/-- The part of an array cut in two along the last mesh axis that a device holds: its parity. -/
theorem par_lin : ∀ c : Dev nD, Layout.meshLin [2, 2, 2] c.val [2] * 1 + 0 = c.val % 2 ∧ Layout.meshLin [2, 2, 2] c.val [2] * 4096 = 4096 * (c.val % 2) := by
  decide +kernel

/-- A device's part of the first argument: the half its parity names. -/
theorem part_at (c : Dev nD) (A : (⟨3, ![2, 8192, 4096]⟩ : Shape).Idx → EReal) (R : Fin 8192) (l : Fin 4096) :
    Layout.blockN ⟨3, ![1, 8192, 4096]⟩ ⟨3, ![2, 8192, 4096]⟩ (Layout.meshBlock [2, 2, 2] ![[2], [], []] c) A (by decide) (ix3 0 R l)
      = A (ix3 ⟨c.val % 2, Nat.mod_lt _ (by decide)⟩ R l) := by
  rw [Layout.blockN_apply]
  refine congrArg A (funext fun a => Fin.ext ?_)
  rw [Layout.TilesN.idx_val]
  match a with
  | 0 => exact (par_lin c).1
  | 1 =>
    change 0 * 8192 + R.val = R.val
    rw [Nat.zero_mul, Nat.zero_add]
  | 2 =>
    change 0 * 4096 + l.val = l.val
    rw [Nat.zero_mul, Nat.zero_add]

/-- A device's part of the whole result: the half of the rows its parity names. -/
theorem rows_at (c : Dev nD) (B : (⟨2, ![8192, 4096]⟩ : Shape).Idx → EReal) (R l : Fin 4096) :
    Layout.blockN ⟨2, ![4096, 4096]⟩ ⟨2, ![8192, 4096]⟩ (Layout.meshBlock [2, 2, 2] ![[2], []] c) B (by decide) (ix2 R l)
      = B (ix2 ⟨4096 * (c.val % 2) + R.val, by omega⟩ l) := by
  rw [Layout.blockN_apply]
  refine congrArg B (funext fun a => Fin.ext ?_)
  rw [Layout.TilesN.idx_val]
  match a with
  | 0 => exact congrArg (· + R.val) (par_lin c).2
  | 1 =>
    change 0 * 4096 + l.val = l.val
    rw [Nat.zero_mul, Nat.zero_add]

/-- Partners are of opposite parity. -/
theorem peer_par : ∀ c : Dev nD, (peer c).val % 2 = 1 - c.val % 2 := by decide +kernel

/-- A device ends with its part of the whole result. -/
theorem fin_part (m : (ℓ : Loc nD τ sig) → Buf (Elt Ideal) ℓ) (A : (⟨3, ![2, 8192, 4096]⟩ : Shape).Idx → EReal) (G : (⟨1, ![4096]⟩ : Shape).Idx → EReal)
    (hA : ∀ c : Dev nD, m ((c : Thread nD τ).loc main_arg0)
      = Layout.blockN ⟨3, ![1, 8192, 4096]⟩ ⟨3, ![2, 8192, 4096]⟩ (Layout.meshBlock [2, 2, 2] ![[2], [], []] c) A)
    (hG : ∀ c : Dev nD, m ((c : Thread nD τ).loc main_arg1) = G) (c : Dev nD) :
    fin m c = Layout.blockN ⟨2, ![4096, 4096]⟩ ⟨2, ![8192, 4096]⟩ (Layout.meshBlock [2, 2, 2] ![[2], []] c) (whole A G) := by
  have hp (d : Dev nD) (R : Fin 8192) (j : Fin 4096) : part m d (ix3 0 R j) = A (ix3 ⟨d.val % 2, Nat.mod_lt _ (by decide)⟩ R j) :=
    (congrFun (hA d) _).trans (part_at d A R j)
  have hw (j : Fin 4096) : weights m c (ix1 j) = G (ix1 j) := congrFun (hG c) _
  funext i
  obtain ⟨R, l, rfl⟩ : ∃ R l : Fin 4096, i = ix2 R l := ⟨i 0, i 1, (ix2_eta i).symm⟩
  refine (fin_at m c R l ⟨4096 * (c.val % 2) + R.val, by omega⟩ rfl).trans (Eq.trans ?_ (rows_at c _ R l).symm)
  simp only [hp, hw]
  refine congrArg (fun y => scaled y (fun j => G (ix1 j)) l) (funext fun j => ?_)
  have hb : c.val % 2 = 0 ∨ c.val % 2 = 1 := by omega
  have hq := peer_par c
  rcases hb with h | h
  · simp only [h, hq]; rfl
  · simp only [h, hq]; exact add_comm _ _

end

end Cert.Meet

end
-- ==== Proof.lean ====
module

public import proofs.«01_k».proof.Defs
public import proofs.«01_k».proof.Proof.Launch
public import proofs.«01_k».proof.Proof.Bits.Launch
public import proofs.«01_k».proof.Proof.Meet
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.StableHlo.RunHlo

@[expose] public section

noncomputable section

namespace Cert.Proof

open Idealize.ShloMosaic Idealize.SL.Sem

/-- The kernel returns, with its arguments as they were and every counter at zero. -/
theorem kernel_returns [∀ e, Nonempty (Elt Bits e)] : quiescent_Kernel := fun m g _ =>
  θ_run_mono (Cert.Kernel.Scatter.run_main m g) fun _ h => ⟨fun c => (h.1 c).2, h.2⟩

/-- So does the kernel over the extended reals. -/
theorem ideal_returns [∀ e, Nonempty (Elt Ideal e)] : quiescent_KernelIdeal := fun m g _ =>
  θ_run_mono (Cert.KernelIdeal.Scatter.run_main m g) fun _ h => ⟨fun c => (h.1 c).2, h.2⟩

/-- So does the reference, which has no counters. -/
theorem reference_returns : quiescent_ReferenceIdeal := fun m g _ =>
  θ_run_mono (Cert.ReferenceIdeal.Value.run m g) fun r h => ⟨fun c => (h c).2, sem_eq_zero_of_no_sems (by decide) r.2⟩

/-- Over the extended reals the kernel's devices end with the parts of what the reference ends with. -/
theorem same_result [∀ e, Nonempty (Elt Ideal e)] : algebraic_KernelIdeal_ReferenceIdeal := fun m g m' g' _ hm =>
  ⟨_, θ_run_mono (Cert.KernelIdeal.Scatter.run_main m g) fun _ h c =>
      ⟨(h.1 c).1.trans (Cert.Meet.fin_part m _ _ (fun d => (hm d).1) (fun d => (hm d).2) c), (h.1 c).2⟩,
    Cert.Meet.reference_run m' g'⟩

/-- Everything claimed. -/
theorem claim : Cert.Claim := ⟨Cert.Kernel.Gen.facts, Cert.KernelIdeal.Gen.facts, Cert.ReferenceIdeal.Gen.facts,
  kernel_returns, ideal_returns, reference_returns, trivial, same_result⟩

end Cert.Proof

end
